-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![48, 48, 48]⟩ ⟨3, ![96, 192, 192]⟩ (Layout.meshBlock [2, 4, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![48, 48, 48]⟩ ⟨3, ![96, 192, 192]⟩ (Layout.meshBlock [2, 4, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x48x48 : Shape := ⟨3, ![48, 48, 48]⟩
abbrev S6x48x48 : Shape := ⟨3, ![6, 48, 48]⟩
abbrev S6 : Shape := ⟨1, ![6]⟩
abbrev S_ : Shape := ⟨0, ![]⟩
abbrev S1x48x48 : Shape := ⟨3, ![1, 48, 48]⟩
abbrev S48x48 : Shape := ⟨2, ![48, 48]⟩
abbrev S48x1x48 : Shape := ⟨3, ![48, 1, 48]⟩
abbrev S48x48x1 : Shape := ⟨3, ![48, 48, 1]⟩
abbrev S1 : Shape := ⟨1, ![1]⟩
abbrev S47x48x48 : Shape := ⟨3, ![47, 48, 48]⟩
abbrev S48x47x48 : Shape := ⟨3, ![48, 47, 48]⟩
abbrev S48x48x47 : Shape := ⟨3, ![48, 48, 47]⟩
abbrev S48x2x48 : Shape := ⟨3, ![48, 2, 48]⟩

abbrev nBuf : Space → Nat
  | .hbm => 2
  | .vmem => 4
  | .smem => 0
  | _ => 0

abbrev bufTy : (tb : Table) → Fin (tcTables nBuf tb) → BufTy
  | .hbm, ⟨0, _⟩ => ⟨S48x48x48, .bf16⟩
  | .hbm, ⟨1, _⟩ => ⟨S48x48x48, .bf16⟩
  | .local _ .vmem, ⟨0, _⟩ => ⟨S48x48x48, .bf16⟩
  | .local _ .vmem, ⟨1, _⟩ => ⟨S48x48x48, .bf16⟩
  | .local _ .vmem, ⟨2, _⟩ => ⟨S6x48x48, .bf16⟩
  | .local _ .vmem, ⟨3, _⟩ => ⟨S6x48x48, .bf16⟩
  | _, _ => ⟨S48x48x48, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v22 : BitVec 32 := Scalar.extui v9
  let c0_i32_12 : BitVec 32 := 0#32
  let v23 : BitVec 1 := Scalar.cmpi .ne v22 c0_i32_12
  v23

def k0_dev1 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_6 : BitVec 32 := 1#32
  let v15 : BitVec 32 := Scalar.subi v2 c1_i32_6
  let c16_i32_72 : BitVec 32 := 16#32
  let v157 : BitVec 32 := Scalar.muli v15 c16_i32_72
  let v158 : BitVec 32 := Scalar.addi c0_i32_73 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v159 : BitVec 32 := Scalar.muli v5 c4_i32_74
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v161 : BitVec 32 := Scalar.muli v8 c1_i32_75
  let v162 : BitVec 32 := Scalar.addi v160 v161
  v162.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 1 := Scalar.cmpi .slt v2 c1_i32_2
  let v24 : BitVec 32 := Scalar.extui v10
  let c0_i32_13 : BitVec 32 := 0#32
  let v25 : BitVec 1 := Scalar.cmpi .ne v24 c0_i32_13
  v25

def k0_dev2 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v16 : BitVec 32 := Scalar.addi v2 c1_i32_7
  let c16_i32_72 : BitVec 32 := 16#32
  let v157 : BitVec 32 := Scalar.muli v16 c16_i32_72
  let v158 : BitVec 32 := Scalar.addi c0_i32_73 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v159 : BitVec 32 := Scalar.muli v5 c4_i32_74
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v161 : BitVec 32 := Scalar.muli v8 c1_i32_75
  let v162 : BitVec 32 := Scalar.addi v160 v161
  v162.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_3 : BitVec 32 := 0#32
  let v11 : BitVec 1 := Scalar.cmpi .sgt v5 c0_i32_3
  let v26 : BitVec 32 := Scalar.extui v11
  let c0_i32_14 : BitVec 32 := 0#32
  let v27 : BitVec 1 := Scalar.cmpi .ne v26 c0_i32_14
  v27

def k0_dev3 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v157 : BitVec 32 := Scalar.muli v2 c16_i32_72
  let v158 : BitVec 32 := Scalar.addi c0_i32_73 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v17 : BitVec 32 := Scalar.subi v5 c1_i32_8
  let c4_i32_74 : BitVec 32 := 4#32
  let v159 : BitVec 32 := Scalar.muli v17 c4_i32_74
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v161 : BitVec 32 := Scalar.muli v8 c1_i32_75
  let v162 : BitVec 32 := Scalar.addi v160 v161
  v162.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v12 : BitVec 1 := Scalar.cmpi .slt v5 c3_i32
  let v28 : BitVec 32 := Scalar.extui v12
  let c0_i32_15 : BitVec 32 := 0#32
  let v29 : BitVec 1 := Scalar.cmpi .ne v28 c0_i32_15
  v29

def k0_dev4 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v157 : BitVec 32 := Scalar.muli v2 c16_i32_72
  let v158 : BitVec 32 := Scalar.addi c0_i32_73 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v18 : BitVec 32 := Scalar.addi v5 c1_i32_9
  let c4_i32_74 : BitVec 32 := 4#32
  let v159 : BitVec 32 := Scalar.muli v18 c4_i32_74
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v161 : BitVec 32 := Scalar.muli v8 c1_i32_75
  let v162 : BitVec 32 := Scalar.addi v160 v161
  v162.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v13 : BitVec 1 := Scalar.cmpi .sgt v8 c0_i32_4
  let v30 : BitVec 32 := Scalar.extui v13
  let c0_i32_16 : BitVec 32 := 0#32
  let v31 : BitVec 1 := Scalar.cmpi .ne v30 c0_i32_16
  v31

def k0_dev5 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v157 : BitVec 32 := Scalar.muli v2 c16_i32_72
  let v158 : BitVec 32 := Scalar.addi c0_i32_73 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v159 : BitVec 32 := Scalar.muli v5 c4_i32_74
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.subi v8 c1_i32_10
  let c1_i32_75 : BitVec 32 := 1#32
  let v161 : BitVec 32 := Scalar.muli v19 c1_i32_75
  let v162 : BitVec 32 := Scalar.addi v160 v161
  v162.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_5 : BitVec 32 := 3#32
  let v14 : BitVec 1 := Scalar.cmpi .slt v8 c3_i32_5
  let v32 : BitVec 32 := Scalar.extui v14
  let c0_i32_17 : BitVec 32 := 0#32
  let v33 : BitVec 1 := Scalar.cmpi .ne v32 c0_i32_17
  v33

def k0_dev6 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v157 : BitVec 32 := Scalar.muli v2 c16_i32_72
  let v158 : BitVec 32 := Scalar.addi c0_i32_73 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v159 : BitVec 32 := Scalar.muli v5 c4_i32_74
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_75 : BitVec 32 := 1#32
  let v161 : BitVec 32 := Scalar.muli v20 c1_i32_75
  let v162 : BitVec 32 := Scalar.addi v160 v161
  v162.toNat
def k0_amt1 (d0 : Dev nD) : BitVec 32 :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v66 : BitVec 32 := Scalar.extui v9
  let v67 : BitVec 32 := Scalar.addi c0_i32_33 v66
  let c1_i32_2 : BitVec 32 := 1#32
  let v10 : BitVec 1 := Scalar.cmpi .slt v2 c1_i32_2
  let v68 : BitVec 32 := Scalar.extui v10
  let v69 : BitVec 32 := Scalar.addi v67 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_3 : BitVec 32 := 0#32
  let v11 : BitVec 1 := Scalar.cmpi .sgt v5 c0_i32_3
  let v70 : BitVec 32 := Scalar.extui v11
  let v71 : BitVec 32 := Scalar.addi v69 v70
  let c3_i32 : BitVec 32 := 3#32
  let v12 : BitVec 1 := Scalar.cmpi .slt v5 c3_i32
  let v72 : BitVec 32 := Scalar.extui v12
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v13 : BitVec 1 := Scalar.cmpi .sgt v8 c0_i32_4
  let v74 : BitVec 32 := Scalar.extui v13
  let v75 : BitVec 32 := Scalar.addi v73 v74
  let c3_i32_5 : BitVec 32 := 3#32
  let v14 : BitVec 1 := Scalar.cmpi .slt v8 c3_i32_5
  let v76 : BitVec 32 := Scalar.extui v14
  let v77 : BitVec 32 := Scalar.addi v75 v76
  v77

def k0_cond7 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v78 : BitVec 32 := Scalar.extui v9
  let c0_i32_34 : BitVec 32 := 0#32
  let v79 : BitVec 1 := Scalar.cmpi .ne v78 c0_i32_34
  v79

def k0_dev7 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_6 : BitVec 32 := 1#32
  let v15 : BitVec 32 := Scalar.subi v2 c1_i32_6
  let c16_i32_75 : BitVec 32 := 16#32
  let v157 : BitVec 32 := Scalar.muli v15 c16_i32_75
  let v158 : BitVec 32 := Scalar.addi c0_i32_76 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v159 : BitVec 32 := Scalar.muli v5 c4_i32_77
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v161 : BitVec 32 := Scalar.muli v8 c1_i32_78
  let v162 : BitVec 32 := Scalar.addi v160 v161
  v162.toNat
def k0_cond8 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 1 := Scalar.cmpi .slt v2 c1_i32_2
  let v80 : BitVec 32 := Scalar.extui v10
  let c0_i32_35 : BitVec 32 := 0#32
  let v81 : BitVec 1 := Scalar.cmpi .ne v80 c0_i32_35
  v81

def k0_dev8 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_7 : BitVec 32 := 1#32
  let v16 : BitVec 32 := Scalar.addi v2 c1_i32_7
  let c16_i32_75 : BitVec 32 := 16#32
  let v157 : BitVec 32 := Scalar.muli v16 c16_i32_75
  let v158 : BitVec 32 := Scalar.addi c0_i32_76 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v159 : BitVec 32 := Scalar.muli v5 c4_i32_77
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v161 : BitVec 32 := Scalar.muli v8 c1_i32_78
  let v162 : BitVec 32 := Scalar.addi v160 v161
  v162.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_3 : BitVec 32 := 0#32
  let v11 : BitVec 1 := Scalar.cmpi .sgt v5 c0_i32_3
  let v82 : BitVec 32 := Scalar.extui v11
  let c0_i32_36 : BitVec 32 := 0#32
  let v83 : BitVec 1 := Scalar.cmpi .ne v82 c0_i32_36
  v83

def k0_dev9 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_75 : BitVec 32 := 16#32
  let v157 : BitVec 32 := Scalar.muli v2 c16_i32_75
  let v158 : BitVec 32 := Scalar.addi c0_i32_76 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v17 : BitVec 32 := Scalar.subi v5 c1_i32_8
  let c4_i32_77 : BitVec 32 := 4#32
  let v159 : BitVec 32 := Scalar.muli v17 c4_i32_77
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v161 : BitVec 32 := Scalar.muli v8 c1_i32_78
  let v162 : BitVec 32 := Scalar.addi v160 v161
  v162.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v12 : BitVec 1 := Scalar.cmpi .slt v5 c3_i32
  let v84 : BitVec 32 := Scalar.extui v12
  let c0_i32_37 : BitVec 32 := 0#32
  let v85 : BitVec 1 := Scalar.cmpi .ne v84 c0_i32_37
  v85

def k0_dev10 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_75 : BitVec 32 := 16#32
  let v157 : BitVec 32 := Scalar.muli v2 c16_i32_75
  let v158 : BitVec 32 := Scalar.addi c0_i32_76 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v18 : BitVec 32 := Scalar.addi v5 c1_i32_9
  let c4_i32_77 : BitVec 32 := 4#32
  let v159 : BitVec 32 := Scalar.muli v18 c4_i32_77
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v161 : BitVec 32 := Scalar.muli v8 c1_i32_78
  let v162 : BitVec 32 := Scalar.addi v160 v161
  v162.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v13 : BitVec 1 := Scalar.cmpi .sgt v8 c0_i32_4
  let v86 : BitVec 32 := Scalar.extui v13
  let c0_i32_38 : BitVec 32 := 0#32
  let v87 : BitVec 1 := Scalar.cmpi .ne v86 c0_i32_38
  v87

def k0_dev11 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v157 : BitVec 32 := Scalar.muli v2 c16_i32_74
  let v158 : BitVec 32 := Scalar.addi c0_i32_75 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v159 : BitVec 32 := Scalar.muli v5 c4_i32_76
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.subi v8 c1_i32_10
  let c1_i32_77 : BitVec 32 := 1#32
  let v161 : BitVec 32 := Scalar.muli v19 c1_i32_77
  let v162 : BitVec 32 := Scalar.addi v160 v161
  v162.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_5 : BitVec 32 := 3#32
  let v14 : BitVec 1 := Scalar.cmpi .slt v8 c3_i32_5
  let v88 : BitVec 32 := Scalar.extui v14
  let c0_i32_39 : BitVec 32 := 0#32
  let v89 : BitVec 1 := Scalar.cmpi .ne v88 c0_i32_39
  v89

def k0_dev12 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v157 : BitVec 32 := Scalar.muli v2 c16_i32_74
  let v158 : BitVec 32 := Scalar.addi c0_i32_75 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v159 : BitVec 32 := Scalar.muli v5 c4_i32_76
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_77 : BitVec 32 := 1#32
  let v161 : BitVec 32 := Scalar.muli v20 c1_i32_77
  let v162 : BitVec 32 := Scalar.addi v160 v161
  v162.toNat
abbrev stage0_0 : Fin 1 → Memref sig .tc .vmem S48x48x48 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x48x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S96x192x192 : Shape := ⟨3, ![96, 192, 192]⟩
abbrev S94x190x190 : Shape := ⟨3, ![94, 190, 190]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S96x192x192, .bf16⟩
  | .hbm, ⟨1, _⟩ => ⟨S94x190x190, .bf16⟩
  | .hbm, ⟨2, _⟩ => ⟨S94x190x190, .bf16⟩
  | .hbm, ⟨3, _⟩ => ⟨S94x190x190, .bf16⟩
  | .hbm, ⟨4, _⟩ => ⟨S94x190x190, .bf16⟩
  | .hbm, ⟨5, _⟩ => ⟨S94x190x190, .bf16⟩
  | .hbm, ⟨6, _⟩ => ⟨S94x190x190, .bf16⟩
  | .hbm, ⟨7, _⟩ => ⟨S94x190x190, .bf16⟩
  | .hbm, ⟨8, _⟩ => ⟨S94x190x190, .bf16⟩
  | .hbm, ⟨9, _⟩ => ⟨S94x190x190, .bf16⟩
  | .hbm, ⟨10, _⟩ => ⟨S94x190x190, .bf16⟩
  | .hbm, ⟨11, _⟩ => ⟨S94x190x190, .bf16⟩
  | .hbm, ⟨12, _⟩ => ⟨S94x190x190, .bf16⟩
  | .hbm, ⟨13, _⟩ => ⟨S_, .bf16⟩
  | .hbm, ⟨14, _⟩ => ⟨S94x190x190, .bf16⟩
  | .hbm, ⟨15, _⟩ => ⟨S94x190x190, .bf16⟩
  | .hbm, ⟨16, _⟩ => ⟨S94x190x190, .bf16⟩
  | .hbm, ⟨17, _⟩ => ⟨S_, .i32⟩
  | .hbm, ⟨18, _⟩ => ⟨S_, .bf16⟩
  | .hbm, ⟨19, _⟩ => ⟨S96x192x192, .bf16⟩
  | _, _ => ⟨S96x192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Topology.lean ====
/-
# The neighbours of a device

The thirty-two devices stand in a box of 2 × 4 × 4: device `c` has the coordinates `c / 16`, `c / 4 % 4` and
`c % 4`. A device has up to six neighbours, one for each direction; on the boundary of the box some are missing.
For a missing neighbour `beside` names the device across the box, so that `beside` is a permutation for each
direction; `has` says whether the neighbour is there.
-/
module

public import Mathlib.Data.Fintype.Prod
public import Mathlib.Data.Fintype.Card
public import Mathlib.Algebra.BigOperators.Group.Finset.Basic
public import Mathlib.Data.Fintype.BigOperators

@[expose] public section

namespace Cert.Box

/-- The place of a device along the three axes of the box. -/
def ix (c : Fin 32) : ℕ := c.val / 16
/-- The second coordinate. -/
def iy (c : Fin 32) : ℕ := c.val / 4 % 4
/-- The third coordinate. -/
def iz (c : Fin 32) : ℕ := c.val % 4

/-- The six directions are numbered 0 and 1 along the first axis (down, up), 2 and 3 along the second, 4 and 5 along
    the third. This is the test whether device `c` has a neighbour in direction `s`. -/
def hasBit (c : Fin 32) : Fin 6 → Bool
  | 0 => decide (0 < ix c)
  | 1 => decide (ix c < 1)
  | 2 => decide (0 < iy c)
  | 3 => decide (iy c < 3)
  | 4 => decide (0 < iz c)
  | 5 => decide (iz c < 3)

/-- Device `c` has a neighbour in direction `s`. -/
abbrev has (c : Fin 32) (s : Fin 6) : Prop := hasBit c s = true

/-- The opposite direction. -/
def opp : Fin 6 → Fin 6
  | 0 => 1
  | 1 => 0
  | 2 => 3
  | 3 => 2
  | 4 => 5
  | 5 => 4

/-- The device at given coordinates, each taken around the box. -/
def place (x y z : ℕ) : Fin 32 := ⟨x % 2 * 16 + y % 4 * 4 + z % 4, by omega⟩

/-- The device next to `c` in direction `s`, going around the box where it ends. -/
def beside (c : Fin 32) : Fin 6 → Fin 32
  | 0 => place (ix c + 1) (iy c) (iz c)
  | 1 => place (ix c + 1) (iy c) (iz c)
  | 2 => place (ix c) (iy c + 3) (iz c)
  | 3 => place (ix c) (iy c + 1) (iz c)
  | 4 => place (ix c) (iy c) (iz c + 3)
  | 5 => place (ix c) (iy c) (iz c + 1)

theorem opp_opp (s : Fin 6) : opp (opp s) = s := by revert s; decide
theorem beside_beside (c : Fin 32) (s : Fin 6) : beside (beside c s) (opp s) = c := by revert c s; decide
/-- Where a neighbour is there, it has this device as its neighbour in the opposite direction. -/
theorem has_beside (c : Fin 32) (s : Fin 6) : has (beside c s) (opp s) ↔ has c s := by revert c s; decide

/-- A device and a direction, exchanged for the device that lies there and the direction back. -/
def across : Fin 32 × Fin 6 ≃ Fin 32 × Fin 6 where
  toFun p := (beside p.1 p.2, opp p.2)
  invFun p := (beside p.1 p.2, opp p.2)
  left_inv p := Prod.ext (beside_beside p.1 p.2) (opp_opp p.2)
  right_inv p := Prod.ext (beside_beside p.1 p.2) (opp_opp p.2)

/-- The number of neighbours. -/
def degree (c : Fin 32) : ℕ := (Finset.univ.filter (has c)).card

/-- A sum over all devices and directions of a term that is there only where the neighbour is, and only when going
    there arrives at `(c, s)`: the one term of the way back. -/
theorem sum_arriving (n : ℕ) (c : Fin 32) (s : Fin 6) :
    (∑ p : Fin 32 × Fin 6, if has p.1 p.2 ∧ across p = (c, s) then n else 0) = if has c s then n else 0 := by
  rw [Finset.sum_eq_single (across.symm (c, s))]
  · refine if_congr ?_ rfl rfl
    rw [and_iff_left (across.apply_symm_apply _)]
    exact has_beside c s
  · intro p _ hp
    exact if_neg fun h => hp (by rw [← h.2, Equiv.symm_apply_apply])
  · intro h; exact absurd (Finset.mem_univ _) h

/-- The number of ways to arrive at a device is the number of its neighbours. -/
theorem sum_arriving_any (c : Fin 32) :
    (∑ p : Fin 32 × Fin 6, if has p.1 p.2 ∧ (across p).1 = c then 1 else 0) = degree c := by
  have h := Equiv.sum_comp across fun q : Fin 32 × Fin 6 => if has q.1 q.2 ∧ q.1 = c then 1 else 0
  refine (Finset.sum_congr rfl fun p _ => if_congr (and_congr_left fun _ => (has_beside p.1 p.2).symm) rfl rfl).trans (h.trans ?_)
  rw [Fintype.sum_prod_type, Finset.sum_eq_single c]
  · unfold degree
    rw [Finset.card_filter]
    exact Finset.sum_congr rfl fun s _ => if_congr (and_iff_left rfl) rfl rfl
  · intro d _ hd
    exact Finset.sum_eq_zero fun s _ => if_neg fun h => hd h.2
  · intro h; exact absurd (Finset.mem_univ _) h

end Cert.Box

end
-- ==== Proof.KernelIdeal.Protocol.lean ====
/-
# Who tells whom what

Every device has three kinds of semaphore cells: its barrier cell, and for each of the six directions a send cell
and a receive cell. This module states the schedule of these cells: which duties are paid into each, how much each
pays, and what it hands over.

* The barrier cell of `c` has one duty of one unit for each direction `s` in which `c` has a neighbour. The
  neighbour pays it and hands over the slot of its receive buffer that `c` will write.
* The receive cell `r` of `c` has one duty when the neighbour is there. The neighbour's copy pays it and hands over
  the slot `r`, filled with the neighbour's face.
* The send cell `s` of `c` has one duty when the neighbour is there. The device's own copy pays it and hands back
  the slot of the send buffer it read.
-/
module

public import proofs.«01_k».proof.Proof.Topology
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Tactic

@[expose] public section

set_option maxRecDepth 16384

noncomputable section

namespace Cert.KernelIdeal.Halo

open Cert.KernelIdeal Cert.KernelIdeal.Gen Cert.Box

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The rounds of the halo exchange, its duties named by the six directions, beside the pipeline's own rounds. -/
abbrev UH : Type := URounds (GSem nD τ sig) (Fin 6)
abbrev UU : Type := UR sig nD τ × UH

local notation "𝕄" => MT nD τ sig Unit (Elt F) ℕ UU ℕ

abbrev EP : Emb (UR sig nD τ) (MT nD τ sig Unit (Elt F) ℕ UU ℕ) := embL
abbrev EH : Emb UH (MT nD τ sig Unit (Elt F) ℕ UU ℕ) := embR

variable (m : (ℓ : Loc nD τ sig) → Buf (Elt F) ℓ) (ρ : Dev nD → PrngReg)

/-- The machine at launch: the memory given, every counter at zero. -/
def start₀ : MemSt nD τ sig (Elt F) := ⟨m, fun _ => 0, ρ⟩

/-- The block of `u` that device `c` holds. -/
def blockOf (c : Dev nD) : FVec F S48x48x48 .bf16 := m ((c : Thread nD τ).loc main_arg0)

/-! ## Slots and cells -/

/-- Where slot `s` begins in a buffer of six faces. -/
def slotOff : Fin 6 → Fin 3 → ℕ
  | 0 => ![0, 0, 0]
  | 1 => ![1, 0, 0]
  | 2 => ![2, 0, 0]
  | 3 => ![3, 0, 0]
  | 4 => ![4, 0, 0]
  | 5 => ![5, 0, 0]

theorem slotOff_inb (s : Fin 6) : ∀ a, slotOff s a + S1x48x48.size a ≤ S6x48x48.size a := by revert s; decide

/-- Slot `s` of a buffer of six faces. -/
abbrev slotRect (s : Fin 6) : Rect S6x48x48 := Rect.unit (s := S6x48x48) (slotOff s) S1x48x48.size (slotOff_inb s)

/-- Slot `s` of the buffer the faces are sent from, as one face. -/
abbrev sentM (s : Fin 6) : Memref sig .tc .vmem S48x48 .bf16 :=
  ((Memref.whole cc0_scratch0 : Memref sig .tc .vmem S6x48x48 .bf16).slice (slotRect s) (fun _ => rfl)).squeeze S48x48 squeezes_S1x48x48_S48x48
/-- Slot `s` of the buffer the neighbours' faces arrive in, as one face. -/
abbrev recvM (s : Fin 6) : Memref sig .tc .vmem S48x48 .bf16 :=
  ((Memref.whole cc0_scratch1 : Memref sig .tc .vmem S6x48x48 .bf16).slice (slotRect s) (fun _ => rfl)).squeeze S48x48 squeezes_S1x48x48_S48x48

/-- The elements of slot `s`. -/
abbrev sentSet (s : Fin 6) : Finset (cc0_scratch0 : Ref sig .tc).ty.Idx := ((View.whole cc0_scratch0).slice (slotRect s)).set
abbrev recvSet (s : Fin 6) : Finset (cc0_scratch1 : Ref sig .tc).ty.Idx := ((View.whole cc0_scratch1).slice (slotRect s)).set

def semOff : Fin 6 → Fin 1 → ℕ
  | 0 => ![0]
  | 1 => ![1]
  | 2 => ![2]
  | 3 => ![3]
  | 4 => ![4]
  | 5 => ![5]

theorem semOff_inb (s : Fin 6) : ∀ a, semOff s a + S1.size a ≤ S6.size a := by revert s; decide

/-- The barrier semaphore, and the two completion semaphores of each direction. -/
abbrev barS : Sem sig := (SemArray.scalar (sig.barrier 0 rfl) : Sems sig S_).sem
def sendSem (s : Fin 6) : DmaSem sig :=
  ((cc0_scratch2.slice (Rect.unit (s := S6) (semOff s) S1.size (semOff_inb s))).squeeze S_ squeezes_S1_S_).sem
def recvSem (s : Fin 6) : DmaSem sig :=
  ((cc0_scratch3.slice (Rect.unit (s := S6) (semOff s) S1.size (semOff_inb s))).squeeze S_ squeezes_S1_S_).sem

theorem sendSem_val (s : Fin 6) : (sendSem s).val = 2 + s.val := by revert s; decide
theorem recvSem_val (s : Fin 6) : (recvSem s).val = 8 + s.val := by revert s; decide

abbrev barCell (c : Dev nD) : GSem nD τ sig := ((c : Thread nD τ), .reg barS)
abbrev sendCell (c : Dev nD) (s : Fin 6) : GSem nD τ sig := ((c : Thread nD τ), .dma (sendSem s))
abbrev recvCell (c : Dev nD) (s : Fin 6) : GSem nD τ sig := ((c : Thread nD τ), .dma (recvSem s))

/-- What a completed copy of one face credits. -/
abbrev N : ℕ := (recvM 0).view.dmaCredit
theorem N_pos : 0 < N := View.dmaCredit_pos _ (by decide)
theorem credit_recvM (s : Fin 6) : (recvM s).view.dmaCredit = N := rfl
theorem credit_sentM (s : Fin 6) : (sentM s).view.dmaCredit = N := by revert s; decide

/-! ## Contents -/

/-- What a device stores in slot `s` of its send buffer: its face in direction `s`. -/
def faceSent (s : Fin 6) (u : FVec F S48x48x48 .bf16) : FVec F S1x48x48 .bf16 :=
  match s with
  | 0 => k0_pay5 u
  | 1 => k0_pay6 u
  | 2 => k0_pay7 u
  | 3 => k0_pay8 u
  | 4 => k0_pay9 u
  | 5 => k0_pay11 (k0_pay10 u)

/-- The face a device's slot `r` receives: the neighbour's, in the direction back. -/
def faceGot (c : Dev nD) (r : Fin 6) : FVec F S1x48x48 .bf16 := faceSent (opp r) (blockOf m (beside c r))

/-- Slot `s` of the send buffer, at contents `f`. -/
def sentPts (c : Dev nD) (s : Fin 6) (f : Buf (Elt F) ((c : Thread nD τ).loc cc0_scratch0)) : sProp 𝕄 :=
  ((c : Thread nD τ).loc cc0_scratch0) ↦[sentSet s]{fullShare} f
/-- Slot `s` of the receive buffer, at contents `f`. -/
def recvPts (c : Dev nD) (s : Fin 6) (f : Buf (Elt F) ((c : Thread nD τ).loc cc0_scratch1)) : sProp 𝕄 :=
  ((c : Thread nD τ).loc cc0_scratch1) ↦[recvSet s]{fullShare} f

instance sentPts_storable (c : Dev nD) (s : Fin 6) (f) : BI.Storable (upEmb : UEmb _ 𝕄) (sentPts (F := F) c s f) := by unfold sentPts; infer_instance
instance recvPts_storable (c : Dev nD) (s : Fin 6) (f) : BI.Storable (upEmb : UEmb _ 𝕄) (recvPts (F := F) c s f) := by unfold recvPts; infer_instance

/-- Slot `s` of the send buffer at some contents; the same of the receive buffer. -/
def sentAny (c : Dev nD) (s : Fin 6) : sProp 𝕄 := iprop(∃ f, sentPts c s f)
def recvAny (c : Dev nD) (s : Fin 6) : sProp 𝕄 := iprop(∃ f, recvPts c s f)

/-- Slot `s` of the send buffer, holding the device's own face. -/
def sentFull (c : Dev nD) (s : Fin 6) : sProp 𝕄 :=
  iprop(∃ f, ⌜((View.whole cc0_scratch0).slice (slotRect s)).read (Elt F) f = faceSent s (blockOf m c)⌝ ∗ sentPts c s f)
/-- Slot `r` of the receive buffer, holding the neighbour's face. -/
def recvFull (c : Dev nD) (r : Fin 6) : sProp 𝕄 :=
  iprop(∃ f, ⌜((View.whole cc0_scratch1).slice (slotRect r)).read (Elt F) f = faceGot m c r⌝ ∗ recvPts c r f)

/-! ## The schedule -/

/-- The direction a completion semaphore belongs to. -/
def dirOf (q : DmaSem sig) : Fin 6 := ⟨(q.val - 2) % 6, Nat.mod_lt _ (by decide)⟩
theorem dirOf_send (s : Fin 6) : dirOf (sendSem s) = s := by revert s; decide
theorem dirOf_recv (s : Fin 6) : dirOf (recvSem s) = s := by revert s; decide

def dutiesOf (c : Dev nD) : SemLoc sig → Finset (Fin 6)
  | .reg _ => Finset.univ.filter (has c)
  | .dma q => if has c (dirOf q) then {0} else ∅
def amountOf' : SemLoc sig → ℕ
  | .reg _ => 1
  | .dma _ => N
def payOf (c : Dev nD) (d : Fin 6) : SemLoc sig → sProp 𝕄
  | .reg _ => recvAny (beside c d) (opp d)
  | .dma q => if q.val < 8 then sentAny c (dirOf q) else recvFull m c (dirOf q)

/-- The schedule of the exchange: everything happens in round 0. -/
def halo : Rounds.Schedule (GSem nD τ sig) (Fin 6) 𝕄 where
  duties g r := if r = 0 then dutiesOf g.1.1 g.2 else ∅
  unitless _ := False
  amount g _ _ := amountOf' g.2
  payload g _ d := payOf m g.1.1 d g.2
  amount_pos g _ _ _ := by
    unfold amountOf'
    split
    · exact Nat.one_pos
    · exact N_pos

instance halo_payload_storable (g : GSem nD τ sig) (r : ℕ) (d : Fin 6) :
    BI.Storable (upEmb : UEmb _ 𝕄) ((halo (F := F) m).payload g r d) := by
  show BI.Storable upEmb (payOf m g.1.1 d g.2)
  unfold payOf sentAny recvFull recvAny
  (repeat' split) <;> infer_instance

section Reading
variable (c : Dev nD) (s : Fin 6)

theorem duties_bar : (halo (F := F) m).duties (barCell c) 0 = Finset.univ.filter (has c) := rfl
theorem duties_send : (halo (F := F) m).duties (sendCell c s) 0 = if has c s then {0} else ∅ := by
  show (if has c (dirOf (sendSem s)) then ({0} : Finset (Fin 6)) else ∅) = _
  rw [dirOf_send]
theorem duties_recv : (halo (F := F) m).duties (recvCell c s) 0 = if has c s then {0} else ∅ := by
  show (if has c (dirOf (recvSem s)) then ({0} : Finset (Fin 6)) else ∅) = _
  rw [dirOf_recv]
/-- After round 0 no cell has a duty. -/
theorem duties_later (g : GSem nD τ sig) : ∀ r, 1 ≤ r → (halo (F := F) m).duties g r = ∅ :=
  fun r hr => if_neg (by omega)
/-- Where the neighbour is missing the cells of that direction have no duty at all. -/
theorem duties_send_none (h : ¬ has c s) : ∀ r, 0 ≤ r → (halo (F := F) m).duties (sendCell c s) r = ∅ := fun r _ => by
  rcases r with _ | r
  · rw [duties_send, if_neg h]
  · exact duties_later m _ _ (by omega)
theorem duties_recv_none (h : ¬ has c s) : ∀ r, 0 ≤ r → (halo (F := F) m).duties (recvCell c s) r = ∅ := fun r _ => by
  rcases r with _ | r
  · rw [duties_recv, if_neg h]
  · exact duties_later m _ _ (by omega)

theorem payload_bar (d : Fin 6) : (halo (F := F) m).payload (barCell c) 0 d = recvAny (beside c d) (opp d) := rfl
theorem payload_send (d : Fin 6) : (halo (F := F) m).payload (sendCell c s) 0 d = sentAny c s := by
  show (if (sendSem s).val < 8 then sentAny c (dirOf (sendSem s)) else recvFull m c (dirOf (sendSem s))) = _
  rw [sendSem_val, if_pos (by omega), dirOf_send]
theorem payload_recv (d : Fin 6) : (halo (F := F) m).payload (recvCell c s) 0 d = recvFull m c s := by
  show (if (recvSem s).val < 8 then sentAny c (dirOf (recvSem s)) else recvFull m c (dirOf (recvSem s))) = _
  rw [recvSem_val, if_neg (by omega), dirOf_recv]

theorem expect_bar : (halo (F := F) m).expect (barCell c) 0 = degree c := by
  unfold Schedule.expect Schedule.amountOf
  rw [duties_bar]
  show (∑ _d ∈ Finset.univ.filter (has c), 1) = _
  rw [Finset.sum_const, smul_eq_mul, mul_one]; rfl
theorem expect_send (h : has c s) : (halo (F := F) m).expect (sendCell c s) 0 = N := by
  unfold Schedule.expect Schedule.amountOf; rw [duties_send, if_pos h, Finset.sum_singleton]; rfl
theorem expect_recv (h : has c s) : (halo (F := F) m).expect (recvCell c s) 0 = N := by
  unfold Schedule.expect Schedule.amountOf; rw [duties_recv, if_pos h, Finset.sum_singleton]; rfl

/-- What the barrier wait hands over: the slots of all neighbours that are there, -/
theorem rest_bar : bigSep ((halo (F := F) m).duties (barCell c) 0 \ ∅) (fun d => (halo (F := F) m).payload (barCell c) 0 d)
    = bigSep Finset.univ fun d : Fin 6 => if has c d then recvAny (beside c d) (opp d) else (iprop(emp) : sProp 𝕄) := by
  rw [Finset.sdiff_empty, duties_bar, bigSep_filter]; rfl
/-- a send wait the slot sent from, -/
theorem rest_send (h : has c s) : bigSep ((halo (F := F) m).duties (sendCell c s) 0 \ ∅) (fun d => (halo (F := F) m).payload (sendCell c s) 0 d)
    = sentAny c s := by
  rw [Finset.sdiff_empty, duties_send, if_pos h, bigSep_singleton, payload_send]
/-- a receive wait the slot filled. -/
theorem rest_recv (h : has c s) : bigSep ((halo (F := F) m).duties (recvCell c s) 0 \ ∅) (fun d => (halo (F := F) m).payload (recvCell c s) 0 d)
    = recvFull m c s := by
  rw [Finset.sdiff_empty, duties_recv, if_pos h, bigSep_singleton, payload_recv]

end Reading

/-! ## What a device owes at launch, and the order of the waits -/

/-- The unit a device owes the barrier cell of its neighbour in direction `s`, -/
def oweB (c : Dev nD) (s : Fin 6) : CellTallies nD τ sig Unit := if has c s then tallyAt (barCell (beside c s)) () 1 else 0
/-- and the face it owes that neighbour's receive cell. -/
def oweR (c : Dev nD) (s : Fin 6) : CellTallies nD τ sig Unit := if has c s then tallyAt (recvCell (beside c s) (opp s)) () N else 0

/-- All faces owed, in the order in which they are paid from the right; -/
def owesFaces (c : Dev nD) : CellTallies nD τ sig Unit :=
  0 + oweR c 5 + oweR c 4 + oweR c 3 + oweR c 2 + oweR c 1 + oweR c 0
/-- and everything owed at launch: the faces and, paid first, the signals. -/
def owesAll (c : Dev nD) : CellTallies nD τ sig Unit :=
  owesFaces c + oweB c 5 + oweB c 4 + oweB c 3 + oweB c 2 + oweB c 1 + oweB c 0

theorem owesFaces_apply (c : Dev nD) (g : GSem nD τ sig) : owesFaces c g () = ∑ s : Fin 6, oweR c s g () := by
  unfold owesFaces
  simp only [Fin.sum_univ_six, Pi.add_apply, Finsupp.add_apply, Pi.zero_apply, Finsupp.zero_apply]
  omega
theorem owesAll_apply (c : Dev nD) (g : GSem nD τ sig) : owesAll c g () = (∑ s : Fin 6, oweR c s g ()) + ∑ s : Fin 6, oweB c s g () := by
  rw [← owesFaces_apply]
  unfold owesAll
  simp only [Fin.sum_univ_six, Pi.add_apply, Finsupp.add_apply]
  omega

theorem oweR_apply (c : Dev nD) (s : Fin 6) (g : GSem nD τ sig) :
    oweR c s g () = if has c s ∧ g = recvCell (beside c s) (opp s) then N else 0 := by
  unfold oweR
  by_cases h : has c s
  · rw [if_pos h, tallyAt_apply]; exact if_congr ⟨fun e => ⟨h, e.1⟩, fun e => ⟨e.2, rfl⟩⟩ rfl rfl
  · rw [if_neg h, if_neg fun e => h e.1]; rfl
theorem oweB_apply (c : Dev nD) (s : Fin 6) (g : GSem nD τ sig) :
    oweB c s g () = if has c s ∧ g = barCell (beside c s) then 1 else 0 := by
  unfold oweB
  by_cases h : has c s
  · rw [if_pos h, tallyAt_apply]; exact if_congr ⟨fun e => ⟨h, e.1⟩, fun e => ⟨e.2, rfl⟩⟩ rfl rfl
  · rw [if_neg h, if_neg fun e => h e.1]; rfl

def L (g : GSem nD τ sig) : Finset Unit := if g.1.2 = .tc then {()} else ∅
/-- The order of the waits: staging and sending first, then the barrier, then receiving. -/
def lvOf : SemLoc sig → ℕ
  | .reg _ => 1
  | .dma q => if q.val < 8 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 6) : lv (recvCell c s) () = 2 := by
  show (if (recvSem s).val < 8 then 0 else 2) = 2
  rw [recvSem_val, if_neg (by omega)]

/-- A face owed is owed to some receive cell, -/
theorem owesFaces_pos {c : Dev nD} {g : GSem nD τ sig} {u : Unit} (h : 0 < owesFaces c g u) : ∃ d s, g = recvCell d s := by
  cases u
  rw [owesFaces_apply] at h
  obtain ⟨s, -, hs⟩ := Finset.exists_ne_zero_of_sum_ne_zero h.ne'
  rw [oweR_apply] at hs
  exact ⟨_, _, (of_not_not fun hn => hs (if_neg hn)).2⟩
/-- and whatever is owed is owed to a receive cell or to a barrier cell. -/
theorem owesAll_pos {c : Dev nD} {g : GSem nD τ sig} {u : Unit} (h : 0 < owesAll c g u) : (∃ d s, g = recvCell d s) ∨ ∃ d, g = barCell d := by
  cases u
  rw [owesAll_apply, ← owesFaces_apply] at h
  rcases Nat.eq_zero_or_pos (owesFaces c g ()) with h0 | h0
  · rw [h0, Nat.zero_add] at h
    obtain ⟨s, -, hs⟩ := Finset.exists_ne_zero_of_sum_ne_zero h.ne'
    rw [oweB_apply] at hs
    exact Or.inr ⟨_, (of_not_not fun hn => hs (if_neg hn)).2⟩
  · exact Or.inl (owesFaces_pos h0)

/-- A staging wait may be made while everything is owed, or nothing. -/
theorem mayWait_stage (c : Dev nD) (q : DmaSem sig) (hq : q.val < 8) (O : CellTallies nD τ sig Unit) (hO : O = owesAll c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owesAll_pos hg with ⟨d, s, rfl⟩ | ⟨d, rfl⟩ <;> exact Finset.mem_singleton_self _)
      (fun p hp => by rw [Finset.mem_singleton.mp hp]; exact (if_pos hq).le)
      (fun g u hg => by
        rcases owesAll_pos hg with ⟨d, s, rfl⟩ | ⟨d, rfl⟩
        · exact (lv_recv d s).symm ▸ (by decide)
        · exact Nat.one_pos)
  · rw [MayWait_zero]; iintro -; iempintro

/-- The barrier wait may be made while the faces are owed. -/
theorem mayWait_bar (c : Dev nD) : (levAts L lv : sProp 𝕄) ⊢ MayWait (c : Thread nD τ) (.reg barS) () (owesFaces c) :=
  MayOwe.of_cut (L := L) (lev := lv) 1 (fun p hp => by rw [Finset.mem_singleton.mp hp, L_tc]; exact Finset.mem_singleton_self _)
    (fun g u hg => by obtain ⟨d, s, rfl⟩ := owesFaces_pos hg; exact Finset.mem_singleton_self _)
    (fun p hp => by rw [Finset.mem_singleton.mp hp]; exact le_refl _)
    (fun g u hg => by obtain ⟨d, s, rfl⟩ := owesFaces_pos hg; exact (lv_recv d s).symm ▸ (by decide))

end Cert.KernelIdeal.Halo

end
-- ==== Proof.KernelIdeal.Steps.lean ====
/-
# The steps of the exchange

One theorem for each kind of step the kernel makes: a signal to a neighbour, the wait for all of them, the copy of a
face, the wait for a face, the wait for a copy sent. Each step of one direction is made only where the neighbour is
there, so each theorem speaks of a program that tests first, and its resources are the ones held in either case.
-/
module

public import proofs.«01_k».proof.Proof.KernelIdeal.Protocol

@[expose] public section

set_option maxRecDepth 16384

noncomputable section

namespace Cert.KernelIdeal.Halo

open Cert.KernelIdeal Cert.KernelIdeal.Gen Cert.Box

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel calls nothing that could run forever. -/
abbrev 𝒱₀ : Variants := Variants.none

/-! ## The cells, all together -/

/-- A cell of a device: the barrier, a send cell or a receive cell. -/
abbrev CellName : Type := Unit ⊕ (Fin 6 ⊕ Fin 6)

abbrev ownSem : Fin 6 ⊕ Fin 6 → SemLoc sig
  | .inl s => .dma (sendSem s)
  | .inr s => .dma (recvSem s)
abbrev cellSem : CellName → SemLoc sig
  | .inl _ => .reg barS
  | .inr k => ownSem k
abbrev cellAt (p : Dev nD × CellName) : GSem nD τ sig := ((p.1 : Thread nD τ), cellSem p.2)

/-- Every cell of every device follows the schedule, and has reached round 0. -/
def records (K : Dev nD × CellName → ℕ) : sProp 𝕄 :=
  iprop((bigSep Finset.univ fun p : Dev nD × CellName => cellInv EH (halo m) (K p) (cellAt p))
    ∗ bigSep Finset.univ fun p : Dev nD × CellName => reached EH (cellAt p) 0)

instance records_persistent (K : Dev nD × CellName → ℕ) : BI.Persistent (records m K) := by unfold records; infer_instance

variable (K : Dev nD × CellName → ℕ)

theorem records_inv (p : Dev nD × CellName) : records m K ⊢ cellInv EH (halo m) (K p) (cellAt p) :=
  sep_elim_left.trans (bigSep_elim (Finset.mem_univ p))
theorem records_reached (p : Dev nD × CellName) : records m K ⊢ reached EH (cellAt p) 0 :=
  sep_elim_right.trans (bigSep_elim (Finset.mem_univ p))

/-! ## What is held between the steps -/

/-- The device owes `O`, whatever it has waited for. -/
def owing (c : Dev nD) (O : CellTallies nD τ sig Unit) : sProp 𝕄 := iprop(∃ W, owes (c : Thread nD τ) O W)

/-- The receive slot `s` after the signal: given to the neighbour if there is one. -/
def kept (c : Dev nD) (s : Fin 6) : sProp 𝕄 := if has c s then iprop(emp) else recvAny c s
/-- The slot of the neighbour the face `s` goes to. -/
def granted (c : Dev nD) (s : Fin 6) : sProp 𝕄 := if has c s then recvAny (beside c s) (opp s) else iprop(emp)
/-- The face `s` after the copy has been started: on its way if there is a neighbour. -/
def underway (c : Dev nD) (s : Fin 6) : sProp 𝕄 :=
  if has c s then cred (tallyAt (sendCell c s) () N) else sentFull m c s
/-- The credit for the face to come into slot `r`. -/
def coming (c : Dev nD) (r : Fin 6) : sProp 𝕄 :=
  if has c r then cred (tallyAt (recvCell c r) () N) else iprop(emp)
/-- The round a send or receive cell of direction `s` is at once its wait is over. -/
def lastRound (c : Dev nD) (s : Fin 6) : ℕ := if has c s then 1 else 0

section Steps

variable {α : Type} {P : Prop} [Decidable P]

/-- The signal in direction `s`: it gives the neighbour the receive slot `s`. -/
theorem signal_when (c : Dev nD) (s : Fin 6) (hP : P ↔ has c s) (dst : P → Dev nD) (hdst : ∀ h, dst h = beside c s)
    (O : CellTallies nD τ sig Unit) (k : Prog (TpuEff nD τ sig (Elt F) Λ₀ .tc) α) (Q : α → sProp 𝕄) :
    iprop(records m K ∗ owing c (O + oweB c s) ∗ dutyTok EH (barCell (beside c s)) 0 (opp s) ∗ recvAny c s)
      ⊢ iprop(((owing c O ∗ kept c s) -∗ wp frame (wpE (defs₀ (F := F)) 𝒱₀ (c : Thread nD τ) none) Set.univ k Q)
        -∗ wp frame (wpE (defs₀ (F := F)) 𝒱₀ (c : Thread nD τ) none) Set.univ
            (if h : P then .op (.semSignal ((dst h), .tc) barS (1#32).toInt) (fun _ => k) else k) Q) := by
  unfold kept owing oweB
  by_cases h : has c s
  · rw [dif_pos (hP.mpr h), if_pos h, if_pos h, hdst]
    iintro ⟨#HR, ⟨%W, HO⟩, Ht, Hs⟩ Hk
    iapply (Rounds.wp_signal 𝒱₀ EH (halo m) (c : Thread nD τ) none (dst := (beside c s : Thread nD τ)) (κ := K (beside c s, .inl ()))
        (d := opp s) (by rw [duties_bar]; exact Finset.mem_filter.mpr ⟨Finset.mem_univ _, (has_beside c s).mpr h⟩)
        (show (halo m).amount (barCell (beside c s)) 0 (opp s) = 1 from rfl) () O rfl) $$ [HO Ht Hs]
    · isplitr; · iapply (records_inv m K (beside c s, .inl ())); iexact HR
      isplitl [HO]; · iexact HO
      isplitl [Ht]; · iexact Ht
      isplitl [Hs]; · rw [payload_bar, beside_beside, opp_opp]; iexact Hs
      iapply (records_reached m K (beside c s, .inl ())); iexact HR
    iintro HO
    iapply Hk
    isplitl
    · iexists W; iexact HO
    · iempintro
  · rw [dif_neg (fun h' => h (hP.mp h')), if_neg h, if_neg h, add_zero]
    iintro ⟨-, HO, -, Hs⟩ Hk
    iapply Hk
    isplitl [HO] <;> iassumption

/-- The wait for all neighbours' signals: it hands over the slots to be written. -/
theorem wait_all (c : Dev nD) (n : BitVec 32) (hn : n.toInt = degree c) (k : PUnit → Prog (TpuEff nD τ sig (Elt F) Λ₀ .tc) α) (Q : α → sProp 𝕄) :
    iprop(records m K ∗ levAts L lv ∗ owing c (owesFaces c) ∗ cred (tallyAt (barCell c) () (degree c)) ∗ atPos EH (barCell c) 0 ∅ 0)
      ⊢ iprop(((owing c (owesFaces c) ∗ atPos EH (barCell c) 1 ∅ 0 ∗ bigSep Finset.univ (granted c))
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n.toInt) k) Q) := by
  rw [hn]
  unfold owing
  iintro ⟨#HR, #Hlev, ⟨%W, HO⟩, Hc, Hat⟩ Hk
  iapply (Rounds.wp_wait_rest_token 𝒱₀ EH (halo m) (c : Thread nD τ) none (κ := K (c, .inl ()))
      (wpE_semWait_eq 𝒱₀ (c : Thread nD τ) none Set.univ) (Set.mem_univ _) () (O := owesFaces c) (W := W) (R := 0) (m := 0) (T := ∅)
      (by rw [expect_bar, Nat.zero_add])) $$ [Hc HO Hat]
  · isplitr; · iapply (records_inv m K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists (insert (SemLoc.reg barS, ()) W); iexact HO
  isplitl [Hat]; · iexact Hat
  unfold granted
  iexact Hp

/-- A face read from the send buffer and written to the receive buffer arrives unchanged. -/
theorem copied (s r : Fin 6) (fs : (cc0_scratch0 : Ref sig .tc).ty.Contents (Elt F)) (fd : (cc0_scratch1 : Ref sig .tc).ty.Contents (Elt F)) :
    ((View.whole cc0_scratch1).slice (slotRect r)).read (Elt F) ((recvM r).view.write (Elt F) fd ((sentM s).view.read (Elt F) fs) Finset.univ)
      = ((View.whole cc0_scratch0).slice (slotRect s)).read (Elt F) fs := by
  funext x
  obtain ⟨y, rfl⟩ := (Shape.reshapeEquiv (squeezes_S1x48x48_S48x48.numel_eq)).surjective x
  exact View.read_write_reshape ((View.whole cc0_scratch1).slice (slotRect r)) squeezes_S1x48x48_S48x48.numel_eq fd _ y

/-- The copy in direction `s`, from the device's slot `s` to the neighbour's slot for the direction back. -/
theorem send_when (c : Dev nD) (s t : Fin 6) (ht : opp s = t) (hP : P ↔ has c s) (dst : P → Dev nD) (hdst : ∀ h, dst h = beside c s)
    {hsc : P → (recvM t).view.ref.isScScratch = false}
    {hsrc : P → (sentM s).view.WordExact} {hdw : P → (recvM t).view.WordExact}
    {hsem : ∀ h : P, DmaTarget.Typed .vmem (.dma (recvSem t)) (.remote (Dev.tc (dst h) : Thread nD τ) (recvM t) (.dma (sendSem s)) (hsc h))}
    (O : CellTallies nD τ sig Unit) (k : Prog (TpuEff nD τ sig (Elt F) Λ₀ .tc) α) (Q : α → sProp 𝕄) :
    iprop(records m K ∗ owing c (O + oweR c s) ∗ dutyTok EH (sendCell c s) 0 0 ∗ dutyTok EH (recvCell (beside c s) (opp s)) 0 0
        ∗ sentFull m c s ∗ granted c s)
      ⊢ iprop(((owing c O ∗ underway m c s) -∗ wp frame (wpE (defs₀ (F := F)) 𝒱₀ (c : Thread nD τ) none) Set.univ k Q)
        -∗ wp frame (wpE (defs₀ (F := F)) 𝒱₀ (c : Thread nD τ) none) Set.univ
            (if h : P then .op (.enqueueDma (sentM s) (.remote (Dev.tc (dst h) : Thread nD τ) (recvM t) (.dma (sendSem s)) (hsc h))
              (.dma (recvSem t)) (hsrc h) (hdw h) (hsem h)) (fun _ => k) else k) Q) := by
  subst ht
  unfold underway owing oweR granted
  by_cases h : has c s
  · have hp := hP.mpr h
    rw [dif_pos hp, if_pos h, if_pos h, if_pos h]
    have hd := hdst hp
    revert hd
    generalize hsem hp = hsem'
    revert hsem'
    generalize dst hp = n
    intro hsem' hd
    subst hd
    unfold sentFull recvAny sentPts recvPts
    iintro ⟨#HR, ⟨%W, HO⟩, Ht, Ht', ⟨%fs, %hfs, Hs⟩, ⟨%fd, Hd⟩⟩ Hk
    iapply (Rounds.wp_send_pointsTo 𝒱₀ EH (halo m) (c : Thread nD τ) none (κ₁ := K (c, .inr (.inl s))) (κ₂ := K (beside c s, .inr (.inr (opp s))))
        (r₁ := 0) (r₂ := 0) (d₁ := 0) (d₂ := 0) (fs := fs) (fd := fd)
        (by rw [duties_send, if_pos h]; exact Finset.mem_singleton_self _)
        (by rw [duties_recv, if_pos ((has_beside c s).mpr h)]; exact Finset.mem_singleton_self _)
        () () N rfl rfl rfl O rfl (W := W)
        (by
          rw [payload_send]; unfold sentAny sentPts
          rw [View.set_reshape]
          iintro H; iexists fs; iexact H)
        (by
          rw [payload_recv]; unfold recvFull recvPts
          rw [View.set_reshape]
          iintro H
          iexists _
          isplitr
          · ipureintro
            exact (copied s (opp s) fs fd).trans (hfs.trans (by unfold faceGot; rw [opp_opp, beside_beside]))
          · iexact H)) $$ [HO Ht Ht' Hs Hd]
    · isplitr; · iapply (records_inv m K (c, .inr (.inl s))); iexact HR
      isplitr; · iapply (records_inv m K (beside c s, .inr (.inr (opp s)))); iexact HR
      isplitl [Hs]; · rw [View.set_reshape]; iexact Hs
      isplitl [Hd]; · rw [View.set_reshape]; iexact Hd
      isplitl [HO]; · iexact HO
      isplitl [Ht]; · iexact Ht
      isplitr; · iapply (records_reached m K (c, .inr (.inl s))); iexact HR
      isplitl [Ht']; · iexact Ht'
      iapply (records_reached m K (beside c s, .inr (.inr (opp s)))); iexact HR
    iintro ⟨Hc, HO⟩
    iapply Hk
    isplitl [HO]; · iexists W; iexact HO
    iexact Hc
  · rw [dif_neg (fun h' => h (hP.mp h')), if_neg h, if_neg h, if_neg h, add_zero]
    iintro ⟨-, HO, -, -, Hs, -⟩ Hk
    iapply Hk
    isplitl [HO] <;> iassumption

/-- The wait that a copy sent in direction `s` is complete: the slot is the device's again. -/
theorem wait_sent_when (c : Dev nD) (s t : Fin 6) (hP : P ↔ has c s)
    {h1 : P → (recvM t).view.WordExact} {h2 : P → (sentM s).view.WordExact}
    (k : Prog (TpuEff nD τ sig (Elt F) Λ₀ .tc) α) (Q : α → sProp 𝕄) :
    iprop(records m K ∗ owing c 0 ∗ underway m c s ∗ atPos EH (sendCell c s) 0 ∅ 0)
      ⊢ iprop(((owing c 0 ∗ sentAny c s ∗ atPos EH (sendCell c s) (lastRound c s) ∅ 0)
            -∗ wp frame (wpE (defs₀ (F := F)) 𝒱₀ (c : Thread nD τ) none) Set.univ k Q)
        -∗ wp frame (wpE (defs₀ (F := F)) 𝒱₀ (c : Thread nD τ) none) Set.univ
            (if h : P then .op (TpuEff.waitDma2 (p := (.tc : Proc τ)) (sendSem s) (recvM t) (sentM s) (h1 h) (h2 h)) (fun _ => k) else k) Q) := by
  unfold underway owing lastRound
  by_cases h : has c s
  · rw [dif_pos (hP.mpr h), if_pos h, if_pos h]
    iintro ⟨#HR, ⟨%W, HO⟩, Hc, Hat⟩ Hk
    iapply (Rounds.wp_wait_rest_token 𝒱₀ EH (halo m) (c : Thread nD τ) none (κ := K (c, .inr (.inl s)))
        (wpE_waitDma2_eq 𝒱₀ (c : Thread nD τ) none Set.univ) (Set.mem_univ _) () (O := 0) (W := W) (R := 0) (m := 0) (T := ∅)
        (by rw [Nat.zero_add, expect_send m c s h])) $$ [Hc HO Hat]
    · isplitr; · iapply (records_inv m K (c, .inr (.inl s))); iexact HR
      isplitl [Hc]; · iexact Hc
      isplitl [HO]; · iexact HO
      isplitr; · rw [MayWait_zero]; iempintro
      iexact Hat
    iintro ⟨HO, Hat, -, Hpay⟩
    ihave Hp := (Entails.of_eq (rest_send m c s h)) $$ Hpay
    iapply Hk
    isplitl [HO]; · iexists _; iexact HO
    isplitl [Hp]; · iexact Hp
    iexact Hat
  · rw [dif_neg (fun h' => h (hP.mp h')), if_neg h, if_neg h]
    unfold sentFull sentAny
    iintro ⟨-, HO, ⟨%f, -, Hs⟩, Hat⟩ Hk
    iapply Hk
    isplitl [HO]; · iexact HO
    isplitl [Hs]; · iexists f; iexact Hs
    iexact Hat

/-! ## Loads and stores -/

abbrev inM : Memref sig .tc .vmem S48x48x48 .bf16 := Memref.whole cc0_stg0_0
abbrev outM : Memref sig .tc .vmem S48x48x48 .bf16 := Memref.whole cc0_stg1_0
abbrev sbufM : Memref sig .tc .vmem S6x48x48 .bf16 := Memref.whole cc0_scratch0
abbrev rbufM : Memref sig .tc .vmem S6x48x48 .bf16 := Memref.whole cc0_scratch1

/-- The staged block of the device, and the block of its result so far. -/
def inPts (c : Dev nD) : sProp 𝕄 := ((c : Thread nD τ).loc cc0_stg0_0) ↦{fullShare} (blockOf m c : Buf (Elt F) ((c : Thread nD τ).loc cc0_stg0_0))
def outPts (c : Dev nD) (o : FVec F S48x48x48 .bf16) : sProp 𝕄 :=
  ((c : Thread nD τ).loc cc0_stg1_0) ↦{fullShare} (o : Buf (Elt F) ((c : Thread nD τ).loc cc0_stg1_0))

/-- The part of a block that lies in `R`, and the block with that part replaced. -/
def partOf (R : Rect S48x48x48) (o : FVec F S48x48x48 .bf16) : R.shape.Idx → Elt F .bf16 := (outM.access R).read (Elt F) o
def putPart (R : Rect S48x48x48) (o : FVec F S48x48x48 .bf16) (v : R.shape.Idx → Elt F .bf16) : FVec F S48x48x48 .bf16 :=
  (outM.access R).write (Elt F) o v Finset.univ

/-- A face is stored in slot `s` of the send buffer. -/
theorem store_face (c : Dev nD) (s : Fin 6) (v : FVec F S1x48x48 .bf16) (hv : v = faceSent s (blockOf m c))
    {hl : sbufM.view.LoadsAt (slotRect s).toLoadRect} {hst : (sbufM.access (slotRect s)).Stores Finset.univ}
    {hm : (Finset.univ : Finset (slotRect s).shape.Idx) = Finset.univ ∨ ∀ a, (slotRect s).stride a = 1}
    (k : Prog (TpuEff nD τ sig (Elt F) Λ₀ .tc) α) (Q : α → sProp 𝕄) :
    sentAny c s
      ⊢ iprop((sentFull m c s -∗ wp frame (wpE (defs₀ (F := F)) 𝒱₀ (c : Thread nD τ) none) Set.univ k Q)
        -∗ wp frame (wpE (defs₀ (F := F)) 𝒱₀ (c : Thread nD τ) none) Set.univ
            (.op (.load sbufM (slotRect s).toLoadRect hl) fun _ => .op (.store sbufM (slotRect s) v Finset.univ hst hm) fun _ => k) Q) := by
  subst hv
  unfold sentAny sentFull sentPts
  iintro ⟨%f, H⟩ Hk
  iapply (wp_load_rect 𝒱₀ (c : Thread nD τ) none Set.univ (m := sbufM) (r := slotRect s) (S := sentSet s) (f := f) (Finset.Subset.refl _)) $$ H
  iintro H
  iapply (wp_store 𝒱₀ (c : Thread nD τ) none Set.univ (m := sbufM) (r := slotRect s) (Mk := Finset.univ) (S := sentSet s) (f := f)
    (by rw [View.setOn_univ])) $$ H
  iintro H
  iapply Hk
  iexists _
  isplitr
  rotate_left
  · iexact H
  · ipureintro; exact View.read_write_univ _ _

/-- The wait for the face of direction `r`, and what follows it: `body` once the face is there, `k` where none is coming. -/
theorem recv_when (c : Dev nD) (r t : Fin 6) (hP : P ↔ has c r)
    {h1 : P → (sentM t).view.WordExact} {h2 : P → (recvM r).view.WordExact}
    (body : P → Prog (TpuEff nD τ sig (Elt F) Λ₀ .tc) α) (k : Prog (TpuEff nD τ sig (Elt F) Λ₀ .tc) α) (Q : α → sProp 𝕄) (R : sProp 𝕄)
    (hbody : ∀ h : P, iprop(R ∗ owing c 0 ∗ recvFull m c r ∗ atPos EH (recvCell c r) (lastRound c r) ∅ 0)
      ⊢ wp frame (wpE (defs₀ (F := F)) 𝒱₀ (c : Thread nD τ) none) Set.univ (body h) Q)
    (hk : ¬ has c r → iprop(R ∗ owing c 0 ∗ recvAny c r ∗ atPos EH (recvCell c r) (lastRound c r) ∅ 0)
      ⊢ wp frame (wpE (defs₀ (F := F)) 𝒱₀ (c : Thread nD τ) none) Set.univ k Q) :
    iprop(records m K ∗ R ∗ owing c 0 ∗ coming c r ∗ kept c r ∗ atPos EH (recvCell c r) 0 ∅ 0)
      ⊢ wp frame (wpE (defs₀ (F := F)) 𝒱₀ (c : Thread nD τ) none) Set.univ
            (if h : P then .op (TpuEff.waitDma2 (p := (.tc : Proc τ)) (recvSem r) (sentM t) (recvM r) (h1 h) (h2 h)) (fun _ => body h) else k) Q := by
  unfold coming kept
  by_cases h : has c r
  · have hp := hP.mpr h
    rw [dif_pos hp, if_pos h, if_pos h]
    have hb := hbody hp
    unfold lastRound at hb
    rw [if_pos h] at hb
    unfold owing at hb ⊢
    iintro ⟨#HR, HF, ⟨%W, HO⟩, Hc, -, Hat⟩
    iapply (Rounds.wp_wait_rest_token 𝒱₀ EH (halo m) (c : Thread nD τ) none (κ := K (c, .inr (.inr r)))
        (wpE_waitDma2_eq 𝒱₀ (c : Thread nD τ) none Set.univ) (Set.mem_univ _) () (O := 0) (W := W) (R := 0) (m := 0) (T := ∅)
        (by rw [Nat.zero_add, expect_recv m c r h])) $$ [Hc HO Hat]
    · isplitr; · iapply (records_inv m K (c, .inr (.inr r))); iexact HR
      isplitl [Hc]; · iexact Hc
      isplitl [HO]; · iexact HO
      isplitr; · rw [MayWait_zero]; iempintro
      iexact Hat
    iintro ⟨HO, Hat, -, Hpay⟩
    ihave Hp := (Entails.of_eq (rest_recv m c r h)) $$ Hpay
    iapply hb
    isplitl [HF]; · iexact HF
    isplitl [HO]; · iexists _; iexact HO
    isplitl [Hp]; · iexact Hp
    iexact Hat
  · rw [dif_neg (fun h' => h (hP.mp h')), if_neg h, if_neg h]
    refine .trans ?_ (hk h)
    unfold lastRound
    rw [if_neg h]
    iintro ⟨-, HR, HO, -, Hs, Hat⟩
    isplitl [HR]; · iexact HR
    isplitl [HO]; · iexact HO
    isplitl [Hs] <;> iassumption

/-- What is added to the part `Rr` of the result: the face that came into slot `r`, if one did. -/
theorem add_when (c : Dev nD) (r t : Fin 6) (hP : P ↔ has c r) (Rr : Rect S48x48x48) (pay : (Rr.shape.Idx → Elt F .bf16) → FVec F S1x48x48 .bf16 → Rr.shape.Idx → Elt F .bf16)
    {h1 : P → (sentM t).view.WordExact} {h2 : P → (recvM r).view.WordExact}
    {hl : P → outM.view.LoadsAt Rr.toLoadRect} {hl' : P → rbufM.view.LoadsAt (slotRect r).toLoadRect} {hl'' : P → outM.view.LoadsAt Rr.toLoadRect}
    {hst : P → (outM.access Rr).Stores Finset.univ} {hm : P → ((Finset.univ : Finset Rr.shape.Idx) = Finset.univ ∨ ∀ a, Rr.stride a = 1)}
    (o o' : FVec F S48x48x48 .bf16) (ho : (if has c r then putPart Rr o (pay (partOf Rr o) (faceGot m c r)) else o) = o') (k : Prog (TpuEff nD τ sig (Elt F) Λ₀ .tc) α) (Q : α → sProp 𝕄) :
    iprop(records m K ∗ owing c 0 ∗ coming c r ∗ kept c r ∗ atPos EH (recvCell c r) 0 ∅ 0 ∗ outPts c o)
      ⊢ iprop(((owing c 0 ∗ recvAny c r ∗ atPos EH (recvCell c r) (lastRound c r) ∅ 0
              ∗ outPts c o')
            -∗ wp frame (wpE (defs₀ (F := F)) 𝒱₀ (c : Thread nD τ) none) Set.univ k Q)
        -∗ wp frame (wpE (defs₀ (F := F)) 𝒱₀ (c : Thread nD τ) none) Set.univ
            (if h : P then .op (TpuEff.waitDma2 (p := (.tc : Proc τ)) (recvSem r) (sentM t) (recvM r) (h1 h) (h2 h)) fun _ =>
                .op (.load outM Rr.toLoadRect (hl h)) fun a => .op (.load rbufM (slotRect r).toLoadRect (hl' h)) fun (b : Vec F S1x48x48 .bf16) =>
                .op (.load outM Rr.toLoadRect (hl'' h)) fun _ => .op (.store outM Rr (pay a b) Finset.univ (hst h) (hm h)) fun _ => k
              else k) Q) := by
  refine BIClass.wand_intro (.trans ?_ (recv_when m K c r t hP _ k Q
    iprop(outPts c o ∗ ((owing c 0 ∗ recvAny c r ∗ atPos EH (recvCell c r) (lastRound c r) ∅ 0
              ∗ outPts c o')
            -∗ wp frame (wpE (defs₀ (F := F)) 𝒱₀ (c : Thread nD τ) none) Set.univ k Q)) (fun h => ?_) (fun hn => ?_)))
  · iintro ⟨⟨HR, HO, Hc, Hs, Hat, Ho⟩, Hk⟩
    isplitl [HR]; · iexact HR
    isplitl [Ho Hk]; · isplitl [Ho] <;> iassumption
    isplitl [HO]; · iexact HO
    isplitl [Hc]; · iexact Hc
    isplitl [Hs] <;> iassumption
  · rw [← ho, if_pos (hP.mp h)]
    unfold recvFull recvPts outPts
    iintro ⟨⟨Ho, Hk⟩, HO, ⟨%f, %hf, Hs⟩, Hat⟩
    iapply (wp_load_rect 𝒱₀ (c : Thread nD τ) none Set.univ (m := outM) (r := Rr) (S := Finset.univ) (f := o) (Finset.subset_univ _)) $$ Ho
    iintro Ho
    iapply (wp_load_rect 𝒱₀ (c : Thread nD τ) none Set.univ (m := rbufM) (r := slotRect r) (S := recvSet r) (f := f) (Finset.Subset.refl _)) $$ Hs
    iintro Hs
    iapply (wp_load_rect 𝒱₀ (c : Thread nD τ) none Set.univ (m := outM) (r := Rr) (S := Finset.univ) (f := o) (Finset.subset_univ _)) $$ Ho
    iintro Ho
    iapply (wp_store 𝒱₀ (c : Thread nD τ) none Set.univ (m := outM) (r := Rr) (Mk := Finset.univ) (S := Finset.univ) (f := o) (Finset.subset_univ _)) $$ Ho
    iintro Ho
    iapply Hk
    isplitl [HO]; · iexact HO
    isplitl [Hs]; · unfold recvAny recvPts; iexists f; iexact Hs
    isplitl [Hat]; · iexact Hat
    rw [← hf]
    iexact Ho
  · rw [← ho, if_neg hn]
    iintro ⟨⟨Ho, Hk⟩, HO, Hs, Hat⟩
    iapply Hk
    isplitl [HO]; · iexact HO
    isplitl [Hs]; · iexact Hs
    isplitl [Hat] <;> iassumption

/-- The same where the part is stored through the larger part `R2` that holds whole words. -/
theorem add_when_within (c : Dev nD) (r t : Fin 6) (hP : P ↔ has c r) (Rr R2 : Rect S48x48x48)
    (pay : (Rr.shape.Idx → Elt F .bf16) → FVec F S1x48x48 .bf16 → Rr.shape.Idx → Elt F .bf16)
    (w : (Rr.shape.Idx → Elt F .bf16) → (R2.shape.Idx → Elt F .bf16) → R2.shape.Idx → Elt F .bf16)
    {h1 : P → (sentM t).view.WordExact} {h2 : P → (recvM r).view.WordExact}
    {hl : P → outM.view.LoadsAt Rr.toLoadRect} {hl' : P → rbufM.view.LoadsAt (slotRect r).toLoadRect} {hl'' : P → outM.view.LoadsAt Rr.toLoadRect}
    {hl2 : P → outM.view.LoadsAt R2.toLoadRect} {hst : P → (outM.access R2).Stores Finset.univ}
    (o o' : FVec F S48x48x48 .bf16) (ho : (if has c r then putPart R2 o (w (pay (partOf Rr o) (faceGot m c r)) (partOf R2 o)) else o) = o') (k : Prog (TpuEff nD τ sig (Elt F) Λ₀ .tc) α) (Q : α → sProp 𝕄) :
    iprop(records m K ∗ owing c 0 ∗ coming c r ∗ kept c r ∗ atPos EH (recvCell c r) 0 ∅ 0 ∗ outPts c o)
      ⊢ iprop(((owing c 0 ∗ recvAny c r ∗ atPos EH (recvCell c r) (lastRound c r) ∅ 0
              ∗ outPts c o')
            -∗ wp frame (wpE (defs₀ (F := F)) 𝒱₀ (c : Thread nD τ) none) Set.univ k Q)
        -∗ wp frame (wpE (defs₀ (F := F)) 𝒱₀ (c : Thread nD τ) none) Set.univ
            (if h : P then .op (TpuEff.waitDma2 (p := (.tc : Proc τ)) (recvSem r) (sentM t) (recvM r) (h1 h) (h2 h)) fun _ =>
                .op (.load outM Rr.toLoadRect (hl h)) fun a => .op (.load rbufM (slotRect r).toLoadRect (hl' h)) fun (b : Vec F S1x48x48 .bf16) =>
                .op (.load outM Rr.toLoadRect (hl'' h)) fun _ => .op (.load outM R2.toLoadRect (hl2 h)) fun old =>
                .op (.store outM R2 (w (pay a b) old) Finset.univ (hst h) (.inl rfl)) fun _ => k
              else k) Q) := by
  refine BIClass.wand_intro (.trans ?_ (recv_when m K c r t hP _ k Q
    iprop(outPts c o ∗ ((owing c 0 ∗ recvAny c r ∗ atPos EH (recvCell c r) (lastRound c r) ∅ 0
              ∗ outPts c o')
            -∗ wp frame (wpE (defs₀ (F := F)) 𝒱₀ (c : Thread nD τ) none) Set.univ k Q)) (fun h => ?_) (fun hn => ?_)))
  · iintro ⟨⟨HR, HO, Hc, Hs, Hat, Ho⟩, Hk⟩
    isplitl [HR]; · iexact HR
    isplitl [Ho Hk]; · isplitl [Ho] <;> iassumption
    isplitl [HO]; · iexact HO
    isplitl [Hc]; · iexact Hc
    isplitl [Hs] <;> iassumption
  · rw [← ho, if_pos (hP.mp h)]
    unfold recvFull recvPts outPts
    iintro ⟨⟨Ho, Hk⟩, HO, ⟨%f, %hf, Hs⟩, Hat⟩
    iapply (wp_load_rect 𝒱₀ (c : Thread nD τ) none Set.univ (m := outM) (r := Rr) (S := Finset.univ) (f := o) (Finset.subset_univ _)) $$ Ho
    iintro Ho
    iapply (wp_load_rect 𝒱₀ (c : Thread nD τ) none Set.univ (m := rbufM) (r := slotRect r) (S := recvSet r) (f := f) (Finset.Subset.refl _)) $$ Hs
    iintro Hs
    iapply (wp_load_rect 𝒱₀ (c : Thread nD τ) none Set.univ (m := outM) (r := Rr) (S := Finset.univ) (f := o) (Finset.subset_univ _)) $$ Ho
    iintro Ho
    iapply (wp_load_rect 𝒱₀ (c : Thread nD τ) none Set.univ (m := outM) (r := R2) (S := Finset.univ) (f := o) (Finset.subset_univ _)) $$ Ho
    iintro Ho
    iapply (wp_store 𝒱₀ (c : Thread nD τ) none Set.univ (m := outM) (r := R2) (Mk := Finset.univ) (S := Finset.univ) (f := o) (Finset.subset_univ _)) $$ Ho
    iintro Ho
    iapply Hk
    isplitl [HO]; · iexact HO
    isplitl [Hs]; · unfold recvAny recvPts; iexists f; iexact Hs
    isplitl [Hat]; · iexact Hat
    rw [← hf]
    iexact Ho
  · rw [← ho, if_neg hn]
    iintro ⟨⟨Ho, Hk⟩, HO, Hs, Hat⟩
    iapply Hk
    isplitl [HO]; · iexact HO
    isplitl [Hs]; · iexact Hs
    isplitl [Hat] <;> iassumption

/-- What is stored in the part `Rr` of the result where the device lies at that border. -/
theorem put_when (c : Dev nD) (s : Fin 6) (hP : P ↔ ¬ has c s) (Rr : Rect S48x48x48) (v : Rr.shape.Idx → Elt F .bf16)
    {hl : P → outM.view.LoadsAt Rr.toLoadRect} {hst : P → (outM.access Rr).Stores Finset.univ}
    {hm : P → ((Finset.univ : Finset Rr.shape.Idx) = Finset.univ ∨ ∀ a, Rr.stride a = 1)}
    (o o' : FVec F S48x48x48 .bf16) (ho : (if has c s then o else putPart Rr o v) = o') (k : Prog (TpuEff nD τ sig (Elt F) Λ₀ .tc) α) (Q : α → sProp 𝕄) :
    outPts c o
      ⊢ iprop((outPts c o' -∗ wp frame (wpE (defs₀ (F := F)) 𝒱₀ (c : Thread nD τ) none) Set.univ k Q)
        -∗ wp frame (wpE (defs₀ (F := F)) 𝒱₀ (c : Thread nD τ) none) Set.univ
            (if h : P then .op (.load outM Rr.toLoadRect (hl h)) fun _ => .op (.store outM Rr v Finset.univ (hst h) (hm h)) fun _ => k else k) Q) := by
  subst ho
  by_cases h : P
  · rw [dif_pos h, if_neg (hP.mp h)]
    unfold outPts
    iintro Ho Hk
    iapply (wp_load_rect 𝒱₀ (c : Thread nD τ) none Set.univ (m := outM) (r := Rr) (S := Finset.univ) (f := o) (Finset.subset_univ _)) $$ Ho
    iintro Ho
    iapply (wp_store 𝒱₀ (c : Thread nD τ) none Set.univ (m := outM) (r := Rr) (Mk := Finset.univ) (S := Finset.univ) (f := o) (Finset.subset_univ _)) $$ Ho
    iintro Ho
    iapply Hk
    iexact Ho
  · rw [dif_neg h, if_pos (of_not_not fun hn => h (hP.mpr hn))]
    iintro Ho Hk
    iapply Hk
    iexact Ho
/-- The same through the larger part `R2`. -/
theorem put_when_within (c : Dev nD) (s : Fin 6) (hP : P ↔ ¬ has c s) (Rr R2 : Rect S48x48x48) (w : (R2.shape.Idx → Elt F .bf16) → R2.shape.Idx → Elt F .bf16)
    {hl : P → outM.view.LoadsAt Rr.toLoadRect} {hl2 : P → outM.view.LoadsAt R2.toLoadRect} {hst : P → (outM.access R2).Stores Finset.univ}
    (o o' : FVec F S48x48x48 .bf16) (ho : (if has c s then o else putPart R2 o (w (partOf R2 o))) = o') (k : Prog (TpuEff nD τ sig (Elt F) Λ₀ .tc) α) (Q : α → sProp 𝕄) :
    outPts c o
      ⊢ iprop((outPts c o' -∗ wp frame (wpE (defs₀ (F := F)) 𝒱₀ (c : Thread nD τ) none) Set.univ k Q)
        -∗ wp frame (wpE (defs₀ (F := F)) 𝒱₀ (c : Thread nD τ) none) Set.univ
            (if h : P then .op (.load outM Rr.toLoadRect (hl h)) fun _ => .op (.load outM R2.toLoadRect (hl2 h)) fun old =>
                .op (.store outM R2 (w old) Finset.univ (hst h) (.inl rfl)) fun _ => k else k) Q) := by
  subst ho
  by_cases h : P
  · rw [dif_pos h, if_neg (hP.mp h)]
    unfold outPts
    iintro Ho Hk
    iapply (wp_load_rect 𝒱₀ (c : Thread nD τ) none Set.univ (m := outM) (r := Rr) (S := Finset.univ) (f := o) (Finset.subset_univ _)) $$ Ho
    iintro Ho
    iapply (wp_load_rect 𝒱₀ (c : Thread nD τ) none Set.univ (m := outM) (r := R2) (S := Finset.univ) (f := o) (Finset.subset_univ _)) $$ Ho
    iintro Ho
    iapply (wp_store 𝒱₀ (c : Thread nD τ) none Set.univ (m := outM) (r := R2) (Mk := Finset.univ) (S := Finset.univ) (f := o) (Finset.subset_univ _)) $$ Ho
    iintro Ho
    iapply Hk
    iexact Ho
  · rw [dif_neg h, if_pos (of_not_not fun hn => h (hP.mpr hn))]
    iintro Ho Hk
    iapply Hk
    iexact Ho

/-- Both completion cells of a direction read zero once no duty is left in them. -/
theorem close_send (c : Dev nD) (s : Fin 6) :
    iprop(records m K ∗ atPos EH (sendCell c s) (lastRound c s) ∅ 0) ⊢ iprop(|={Set.univ}=> semVal (sendCell c s) 0) := by
  have hR : ∀ r, lastRound c s ≤ r → (halo (F := F) m).duties (sendCell c s) r = ∅ := by
    unfold lastRound
    by_cases h : has c s
    · rw [if_pos h]; exact duties_later m _
    · rw [if_neg h]; exact duties_send_none m c s h
  iintro ⟨#HR, Hat⟩
  iapply (Rounds.cell_close EH (halo m) (Set.mem_univ (K (c, .inr (.inl s)))) (fun h => h) (R := lastRound c s) hR)
  isplitr; · iapply (records_inv m K (c, .inr (.inl s))); iexact HR
  iexact Hat
theorem close_recv (c : Dev nD) (s : Fin 6) :
    iprop(records m K ∗ atPos EH (recvCell c s) (lastRound c s) ∅ 0) ⊢ iprop(|={Set.univ}=> semVal (recvCell c s) 0) := by
  have hR : ∀ r, lastRound c s ≤ r → (halo (F := F) m).duties (recvCell c s) r = ∅ := by
    unfold lastRound
    by_cases h : has c s
    · rw [if_pos h]; exact duties_later m _
    · rw [if_neg h]; exact duties_recv_none m c s h
  iintro ⟨#HR, Hat⟩
  iapply (Rounds.cell_close EH (halo m) (Set.mem_univ (K (c, .inr (.inr s)))) (fun h => h) (R := lastRound c s) hR)
  isplitr; · iapply (records_inv m K (c, .inr (.inr s))); iexact HR
  iexact Hat
theorem close_bar (c : Dev nD) :
    iprop(records m K ∗ atPos EH (barCell c) 1 ∅ 0) ⊢ iprop(|={Set.univ}=> semVal (barCell c) 0) := by
  iintro ⟨#HR, Hat⟩
  iapply (Rounds.cell_close EH (halo m) (Set.mem_univ (K (c, .inl ()))) (fun h => h) (R := 1) (duties_later m _))
  isplitr; · iapply (records_inv m K (c, .inl ())); iexact HR
  iexact Hat

end Steps

end Cert.KernelIdeal.Halo

end
-- ==== Proof.KernelIdeal.Send.lean ====
/-
# The first half of the body: signals, faces, copies

The body runs in five stretches. This module goes through the first three: the signals to the neighbours, the storing
of the six faces in the send buffer, and, after the wait for all neighbours, the six copies.
-/
module

public import proofs.«01_k».proof.Proof.KernelIdeal.Steps

@[expose] public section

set_option maxRecDepth 16384

noncomputable section

namespace Cert.KernelIdeal.Halo

open Cert.KernelIdeal Cert.KernelIdeal.Gen Cert.Box

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellName → ℕ)

/-! ## Which device does what, and to whom -/

theorem signals_0 (c : Dev nD) : k0_cond1 c = 1#1 ↔ has c 0 := by revert c; decide
theorem signalled_0 (c : Dev nD) (h : k0_cond1 c = 1#1) : (⟨k0_dev1 c, k0_dev1_lt c h⟩ : Dev nD) = beside c 0 := by revert c; decide
theorem sends_0 (c : Dev nD) : k0_cond7 c = 1#1 ↔ has c 0 := by revert c; decide
theorem sentTo_0 (c : Dev nD) (h : k0_cond7 c = 1#1) : (⟨k0_dev7 c, k0_dev7_lt c h⟩ : Dev nD) = beside c 0 := by revert c; decide
theorem signals_1 (c : Dev nD) : k0_cond2 c = 1#1 ↔ has c 1 := by revert c; decide
theorem signalled_1 (c : Dev nD) (h : k0_cond2 c = 1#1) : (⟨k0_dev2 c, k0_dev2_lt c h⟩ : Dev nD) = beside c 1 := by revert c; decide
theorem sends_1 (c : Dev nD) : k0_cond8 c = 1#1 ↔ has c 1 := by revert c; decide
theorem sentTo_1 (c : Dev nD) (h : k0_cond8 c = 1#1) : (⟨k0_dev8 c, k0_dev8_lt c h⟩ : Dev nD) = beside c 1 := by revert c; decide
theorem signals_2 (c : Dev nD) : k0_cond3 c = 1#1 ↔ has c 2 := by revert c; decide
theorem signalled_2 (c : Dev nD) (h : k0_cond3 c = 1#1) : (⟨k0_dev3 c, k0_dev3_lt c h⟩ : Dev nD) = beside c 2 := by revert c; decide
theorem sends_2 (c : Dev nD) : k0_cond9 c = 1#1 ↔ has c 2 := by revert c; decide
theorem sentTo_2 (c : Dev nD) (h : k0_cond9 c = 1#1) : (⟨k0_dev9 c, k0_dev9_lt c h⟩ : Dev nD) = beside c 2 := by revert c; decide
theorem signals_3 (c : Dev nD) : k0_cond4 c = 1#1 ↔ has c 3 := by revert c; decide
theorem signalled_3 (c : Dev nD) (h : k0_cond4 c = 1#1) : (⟨k0_dev4 c, k0_dev4_lt c h⟩ : Dev nD) = beside c 3 := by revert c; decide
theorem sends_3 (c : Dev nD) : k0_cond10 c = 1#1 ↔ has c 3 := by revert c; decide
theorem sentTo_3 (c : Dev nD) (h : k0_cond10 c = 1#1) : (⟨k0_dev10 c, k0_dev10_lt c h⟩ : Dev nD) = beside c 3 := by revert c; decide
theorem signals_4 (c : Dev nD) : k0_cond5 c = 1#1 ↔ has c 4 := by revert c; decide
theorem signalled_4 (c : Dev nD) (h : k0_cond5 c = 1#1) : (⟨k0_dev5 c, k0_dev5_lt c h⟩ : Dev nD) = beside c 4 := by revert c; decide
theorem sends_4 (c : Dev nD) : k0_cond11 c = 1#1 ↔ has c 4 := by revert c; decide
theorem sentTo_4 (c : Dev nD) (h : k0_cond11 c = 1#1) : (⟨k0_dev11 c, k0_dev11_lt c h⟩ : Dev nD) = beside c 4 := by revert c; decide
theorem signals_5 (c : Dev nD) : k0_cond6 c = 1#1 ↔ has c 5 := by revert c; decide
theorem signalled_5 (c : Dev nD) (h : k0_cond6 c = 1#1) : (⟨k0_dev6 c, k0_dev6_lt c h⟩ : Dev nD) = beside c 5 := by revert c; decide
theorem sends_5 (c : Dev nD) : k0_cond12 c = 1#1 ↔ has c 5 := by revert c; decide
theorem sentTo_5 (c : Dev nD) (h : k0_cond12 c = 1#1) : (⟨k0_dev12 c, k0_dev12_lt c h⟩ : Dev nD) = beside c 5 := by revert c; decide
theorem amount_signals (c : Dev nD) : (k0_amt1 c).toInt = degree c := by revert c; decide

/-- The device's place along each axis, -/
def placeX (c : Dev nD) : BitVec 32 := BitVec.ofNat 32 (c.val / 16 % 2)
def placeY (c : Dev nD) : BitVec 32 := BitVec.ofNat 32 (c.val / 4 % 4)
def placeZ (c : Dev nD) : BitVec 32 := BitVec.ofNat 32 (c.val % 4)
/-- and whether there is a neighbour in direction `s`, as a bit. -/
def bit (c : Dev nD) (s : Fin 6) : BitVec 1 := if has c s then 1#1 else 0#1

/-- A resource for each of the six directions. -/
theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl

theorem off_zero : (![0, 0, 0] : Fin 3 → Nat) = fun _ => 0 := funext fun a => by fin_cases a <;> rfl

/-- The first stretch: four signals. It leaves the device's places and bits, and six words nobody reads. -/
theorem part1_spec (c : Dev nD) (Φ : (Σ' (d0 : Dev nD) (v2 : BitVec 32) (v5 : BitVec 32) (v8 : BitVec 32) (v9 : BitVec 1) (v10 : BitVec 1) (v11 : BitVec 1) (v12 : BitVec 1) (v13 : BitVec 1) (v14 : BitVec 1) (v15 : BitVec 32) (v16 : BitVec 32) (v17 : BitVec 32) (v18 : BitVec 32) (v19 : BitVec 32) (v20 : BitVec 32), Sems sig S_) → sProp 𝕄) :
    iprop(records m K ∗ owing c (owesAll c) ∗ (dutyTok EH (barCell (beside c 0)) 0 (opp 0) ∗ recvAny c 0) ∗ (dutyTok EH (barCell (beside c 1)) 0 (opp 1) ∗ recvAny c 1) ∗ (dutyTok EH (barCell (beside c 2)) 0 (opp 2) ∗ recvAny c 2) ∗ (dutyTok EH (barCell (beside c 3)) 0 (opp 3) ∗ recvAny c 3))
      ⊢ iprop((∀ w0 w1 w2 w3 w4 w5, (owing c (owesFaces c + oweB c 5 + oweB c 4) ∗ kept c 0 ∗ kept c 1 ∗ kept c 2 ∗ kept c 3)
            -∗ Φ ⟨c, placeX c, placeY c, placeZ c, bit c 0, bit c 1, bit c 2, bit c 3, bit c 4, bit c 5, w0, w1, w2, w3, w4, w5,
                SemArray.scalar (sig.barrier 0 rfl)⟩)
        -∗ wp frame (wpE (defs₀ (F := F)) 𝒱₀ (c : Thread nD τ) none) Set.univ
          (k0_part1 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Φ) := by
  rw [k0_part1_eq_skeleton]; unfold k0_part1_skel
  simp -zeta only [semSignalWord, semWaitWord, Prog.lift, Prog.bind_op, Prog.bind_ret, Prog.pure_eq_ret]
  rw [wp_deviceId]
  iintro ⟨#HR, HO, H0, H1, H2, H3⟩ Hk
  extract_lets v0 v1 v2 v4 v5 v7 v8 v9 v10 v11 v12 v13 v14 v15 v16 v17 v18 v19 v20 v21 k3 k2 k1 k0
  iapply (signal_when m K c 0 (signals_0 c) _ (signalled_0 c) _ _ _) $$ [HO H0]
  · isplitr; · iexact HR
    isplitl [HO]; · iexact HO
    iexact H0
  iintro ⟨HO, H0⟩
  simp -zeta only [k0]
  iapply (signal_when m K c 1 (signals_1 c) _ (signalled_1 c) _ _ _) $$ [HO H1]
  · isplitr; · iexact HR
    isplitl [HO]; · iexact HO
    iexact H1
  iintro ⟨HO, H1⟩
  simp -zeta only [k1]
  iapply (signal_when m K c 2 (signals_2 c) _ (signalled_2 c) _ _ _) $$ [HO H2]
  · isplitr; · iexact HR
    isplitl [HO]; · iexact HO
    iexact H2
  iintro ⟨HO, H2⟩
  simp -zeta only [k2]
  iapply (signal_when m K c 3 (signals_3 c) _ (signalled_3 c) _ _ _) $$ [HO H3]
  · isplitr; · iexact HR
    isplitl [HO]; · iexact HO
    iexact H3
  iintro ⟨HO, H3⟩
  simp -zeta only [k3]
  rw [wp_ret]
  have e2 : v2 = placeX c := by simp only [v2, v1, v0]; clear * -; revert c; decide
  have e5 : v5 = placeY c := by simp only [v5, v4, v0]; clear * -; revert c; decide
  have e8 : v8 = placeZ c := by simp only [v8, v7, v0]; clear * -; revert c; decide
  have e9 : v9 = bit c 0 := by simp only [v9, e2]; clear * -; revert c; decide
  have e10 : v10 = bit c 1 := by simp only [v10, e2]; clear * -; revert c; decide
  have e11 : v11 = bit c 2 := by simp only [v11, e5]; clear * -; revert c; decide
  have e12 : v12 = bit c 3 := by simp only [v12, e5]; clear * -; revert c; decide
  have e13 : v13 = bit c 4 := by simp only [v13, e8]; clear * -; revert c; decide
  have e14 : v14 = bit c 5 := by simp only [v14, e8]; clear * -; revert c; decide
  rw [e2, e5, e8, e9, e10, e11, e12, e13, e14]
  imodintro
  iapply Hk
  isplitl [HO]; · iexact HO
  isplitl [H0]; · iexact H0
  isplitl [H1]; · iexact H1
  isplitl [H2] <;> iassumption

/-- The second stretch: the two signals left, and five of the faces. -/
theorem part2_spec (c : Dev nD) (a2 a5 : BitVec 32) (a14 : BitVec 1) (a19 a20 : BitVec 32) (Φ : (Σ' (v35 : FVec F S48x48x48 .bf16), FVec F S48x48 .bf16) → sProp 𝕄) :
    iprop(records m K ∗ owing c (owesFaces c + oweB c 5 + oweB c 4) ∗ (dutyTok EH (barCell (beside c 4)) 0 (opp 4) ∗ recvAny c 4) ∗ (dutyTok EH (barCell (beside c 5)) 0 (opp 5) ∗ recvAny c 5) ∗ inPts m c
        ∗ sentAny c 0 ∗ sentAny c 1 ∗ sentAny c 2 ∗ sentAny c 3 ∗ sentAny c 4)
      ⊢ iprop(((owing c (owesFaces c) ∗ kept c 4 ∗ kept c 5 ∗ inPts m c
              ∗ sentFull m c 0 ∗ sentFull m c 1 ∗ sentFull m c 2 ∗ sentFull m c 3 ∗ sentFull m c 4)
            -∗ Φ ⟨k0_pay4 (blockOf m c), k0_pay10 (blockOf m c)⟩)
        -∗ wp frame (wpE (defs₀ (F := F)) 𝒱₀ (c : Thread nD τ) none) Set.univ
          (k0_part2 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 c a2 a5 a14 a19 a20 (SemArray.scalar (sig.barrier 0 rfl))) Φ) := by
  rw [k0_part2_eq_skeleton]; unfold k0_part2_skel
  simp -zeta only [semSignalWord, semWaitWord, Prog.lift, Prog.bind_op, Prog.bind_ret, Prog.pure_eq_ret]
  iintro ⟨#HR, HO, H4, H5, Hin, S0, S1, S2, S3, S4⟩ Hk
  extract_lets k5 k4
  iapply (signal_when m K c 4 (signals_4 c) _ (signalled_4 c) _ _ _) $$ [HO H4]
  · isplitr; · iexact HR
    isplitl [HO]; · iexact HO
    iexact H4
  iintro ⟨HO, H4⟩
  simp -zeta only [k4]
  iapply (signal_when m K c 5 (signals_5 c) _ (signalled_5 c) _ _ _) $$ [HO H5]
  · isplitr; · iexact HR
    isplitl [HO]; · iexact HO
    iexact H5
  iintro ⟨HO, H5⟩
  simp -zeta only [k5]
  unfold inPts
  iapply (wp_load 𝒱₀ (c : Thread nD τ) none Set.univ (m := inM) (S := Finset.univ) (Finset.subset_univ _)) $$ Hin
  iintro Hin
  rw [show (inM : Memref sig .tc .vmem S48x48x48 .bf16).view.readAt (Elt F) (Rect.unit (s := S48x48x48) ![0, 0, 0] S48x48x48.size inb_S48x48x48_S48x48x48_0_0_0).toLoadRect (blockOf m c)
    = blockOf m c from Memref.readAt_unit_zero (Elt F) cc0_stg0_0 off_zero _ _]
  iapply (store_face m c 0 _ rfl _ _) $$ S0
  iintro S0
  iapply (store_face m c 1 _ rfl _ _) $$ S1
  iintro S1
  iapply (store_face m c 2 _ rfl _ _) $$ S2
  iintro S2
  iapply (store_face m c 3 _ rfl _ _) $$ S3
  iintro S3
  iapply (store_face m c 4 _ rfl _ _) $$ S4
  iintro S4
  rw [wp_ret]
  imodintro
  iapply Hk
  isplitl [HO]; · iexact HO
  isplitl [H4]; · iexact H4
  isplitl [H5]; · iexact H5
  isplitl [Hin]; · iexact Hin
  isplitl [S0]; · iexact S0
  isplitl [S1]; · iexact S1
  isplitl [S2]; · iexact S2
  isplitl [S3] <;> iassumption

set_option maxHeartbeats 1600000 in
/-- The third stretch: the last face, the wait for all neighbours, and the six copies. -/
theorem part3_spec (c : Dev nD) (a2 a5 a8 : BitVec 32) (b0 b1 b2 b3 b4 b5 : BitVec 1) (w0 w1 w2 w3 w4 w5 : BitVec 32)
    (Φ : (Σ' (v92 : FVec F S48x48x1 .bf16), FVec F S48x48x48 .bf16) → sProp 𝕄) :
    iprop(records m K ∗ levAts L lv ∗ owing c (owesFaces c) ∗ cred (tallyAt (barCell c) () (degree c)) ∗ atPos EH (barCell c) 0 ∅ 0
        ∗ sentFull m c 0 ∗ sentFull m c 1 ∗ sentFull m c 2 ∗ sentFull m c 3 ∗ sentFull m c 4 ∗ sentAny c 5
        ∗ (dutyTok EH (sendCell c 0) 0 0 ∗ dutyTok EH (recvCell (beside c 0) (opp 0)) 0 0) ∗ (dutyTok EH (sendCell c 1) 0 0 ∗ dutyTok EH (recvCell (beside c 1) (opp 1)) 0 0) ∗ (dutyTok EH (sendCell c 2) 0 0 ∗ dutyTok EH (recvCell (beside c 2) (opp 2)) 0 0) ∗ (dutyTok EH (sendCell c 3) 0 0 ∗ dutyTok EH (recvCell (beside c 3) (opp 3)) 0 0) ∗ (dutyTok EH (sendCell c 4) 0 0 ∗ dutyTok EH (recvCell (beside c 4) (opp 4)) 0 0) ∗ (dutyTok EH (sendCell c 5) 0 0 ∗ dutyTok EH (recvCell (beside c 5) (opp 5)) 0 0))
      ⊢ iprop(((owing c 0 ∗ atPos EH (barCell c) 1 ∅ 0
              ∗ underway m c 0 ∗ underway m c 1 ∗ underway m c 2 ∗ underway m c 3 ∗ underway m c 4 ∗ underway m c 5)
            -∗ Φ ⟨k0_pay12, k0_pay13 (k0_pay4 (blockOf m c))⟩)
        -∗ wp frame (wpE (defs₀ (F := F)) 𝒱₀ (c : Thread nD τ) none) Set.univ
          (k0_part3 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 c a2 a5 a8 b0 b1 b2 b3 b4 b5 w0 w1 w2 w3 w4 w5
            (SemArray.scalar (sig.barrier 0 rfl)) (k0_pay4 (blockOf m c)) (k0_pay10 (blockOf m c))) Φ) := by
  rw [k0_part3_eq_skeleton]; unfold k0_part3_skel
  simp -zeta only [semSignalWord, semWaitWord, Prog.lift, Prog.bind_op, Prog.bind_ret, Prog.pure_eq_ret]
  iintro ⟨#HR, #Hlev, HO, Hc, Hat, S0, S1, S2, S3, S4, S5, ⟨T0, R0⟩, ⟨T1, R1⟩, ⟨T2, R2⟩, ⟨T3, R3⟩, ⟨T4, R4⟩, ⟨T5, R5⟩⟩ Hk
  iapply (store_face m c 5 _ rfl _ _) $$ S5
  iintro S5
  iapply (wait_all m K c (k0_amt1 c) (amount_signals c) _ _) $$ [HO Hc Hat]
  · isplitr; · iexact HR
    isplitr; · iexact Hlev
    isplitl [HO]; · iexact HO
    isplitl [Hc] <;> iassumption
  iintro ⟨HO, Hat, Hg⟩
  ihave Hg := (Entails.of_eq (six (granted c))) $$ Hg
  icases Hg with ⟨G0, G1, G2, G3, G4, G5⟩
  unfold owesFaces
  extract_lets k5 _ _ _ _ _ _ _ _ k4 _ _ _ _ _ _ _ _ k3 _ _ _ _ _ _ _ _ k2 _ _ _ _ _ _ _ _ k1 _ _ _ _ _ _ _ _ k0 _ _ _ _ _ _ _ _
  iapply (send_when m K c 0 1 rfl (sends_0 c) _ (sentTo_0 c) _ _ _) $$ [HO T0 R0 S0 G0]
  · isplitr; · iexact HR
    isplitl [HO]; · iexact HO
    isplitl [T0]; · iexact T0
    isplitl [R0]; · iexact R0
    isplitl [S0] <;> iassumption
  iintro ⟨HO, S0⟩
  simp -zeta only [k0]
  iapply (send_when m K c 1 0 rfl (sends_1 c) _ (sentTo_1 c) _ _ _) $$ [HO T1 R1 S1 G1]
  · isplitr; · iexact HR
    isplitl [HO]; · iexact HO
    isplitl [T1]; · iexact T1
    isplitl [R1]; · iexact R1
    isplitl [S1] <;> iassumption
  iintro ⟨HO, S1⟩
  simp -zeta only [k1]
  iapply (send_when m K c 2 3 rfl (sends_2 c) _ (sentTo_2 c) _ _ _) $$ [HO T2 R2 S2 G2]
  · isplitr; · iexact HR
    isplitl [HO]; · iexact HO
    isplitl [T2]; · iexact T2
    isplitl [R2]; · iexact R2
    isplitl [S2] <;> iassumption
  iintro ⟨HO, S2⟩
  simp -zeta only [k2]
  iapply (send_when m K c 3 2 rfl (sends_3 c) _ (sentTo_3 c) _ _ _) $$ [HO T3 R3 S3 G3]
  · isplitr; · iexact HR
    isplitl [HO]; · iexact HO
    isplitl [T3]; · iexact T3
    isplitl [R3]; · iexact R3
    isplitl [S3] <;> iassumption
  iintro ⟨HO, S3⟩
  simp -zeta only [k3]
  iapply (send_when m K c 4 5 rfl (sends_4 c) _ (sentTo_4 c) _ _ _) $$ [HO T4 R4 S4 G4]
  · isplitr; · iexact HR
    isplitl [HO]; · iexact HO
    isplitl [T4]; · iexact T4
    isplitl [R4]; · iexact R4
    isplitl [S4] <;> iassumption
  iintro ⟨HO, S4⟩
  simp -zeta only [k4]
  iapply (send_when m K c 5 4 rfl (sends_5 c) _ (sentTo_5 c) _ _ _) $$ [HO T5 R5 S5 G5]
  · isplitr; · iexact HR
    isplitl [HO]; · iexact HO
    isplitl [T5]; · iexact T5
    isplitl [R5]; · iexact R5
    isplitl [S5] <;> iassumption
  iintro ⟨HO, S5⟩
  simp -zeta only [k5]
  rw [wp_ret]
  imodintro
  iapply Hk
  isplitl [HO]; · iexact HO
  isplitl [Hat]; · iexact Hat
  isplitl [S0]; · iexact S0
  isplitl [S1]; · iexact S1
  isplitl [S2]; · iexact S2
  isplitl [S3]; · iexact S3
  isplitl [S4] <;> iassumption

end Cert.KernelIdeal.Halo

end
-- ==== Proof.KernelIdeal.Receive.lean ====
/-
# The second half of the body: the sum, the faces that come in, the border

Once the copies are under way, a device sums up its own block, adds the faces as they come in, sets its part of the
border of the whole array to zero, and waits for its copies. This module names the block of the result after each of
these steps and goes through the fourth stretch of the body.
-/
module

public import proofs.«01_k».proof.Proof.KernelIdeal.Send

@[expose] public section

set_option maxRecDepth 16384

noncomputable section

namespace Cert.KernelIdeal.Halo

open Cert.KernelIdeal Cert.KernelIdeal.Gen Cert.Box

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellName → ℕ)

/-! ## The block of the result after each step -/

abbrev wholeR : Rect S48x48x48 := Rect.unit (s := S48x48x48) ![0, 0, 0] S48x48x48.size inb_S48x48x48_S48x48x48_0_0_0
abbrev lowX : Rect S48x48x48 := Rect.unit (s := S48x48x48) ![0, 0, 0] S1x48x48.size inb_S48x48x48_S1x48x48_0_0_0
abbrev highX : Rect S48x48x48 := Rect.unit (s := S48x48x48) ![47, 0, 0] S1x48x48.size inb_S48x48x48_S1x48x48_47_0_0
abbrev lowY : Rect S48x48x48 := Rect.unit (s := S48x48x48) ![0, 0, 0] S48x1x48.size inb_S48x48x48_S48x1x48_0_0_0
abbrev highY : Rect S48x48x48 := Rect.unit (s := S48x48x48) ![0, 47, 0] S48x1x48.size inb_S48x48x48_S48x1x48_0_47_0
abbrev lowY2 : Rect S48x48x48 := Rect.unit (s := S48x48x48) ![0, 0, 0] S48x2x48.size inb_S48x48x48_S48x2x48_0_0_0
abbrev highY2 : Rect S48x48x48 := Rect.unit (s := S48x48x48) ![0, 46, 0] S48x2x48.size inb_S48x48x48_S48x2x48_0_46_0
abbrev lowZ : Rect S48x48x48 := Rect.unit (s := S48x48x48) ![0, 0, 0] S48x48x1.size inb_S48x48x48_S48x48x1_0_0_0
abbrev highZ : Rect S48x48x48 := Rect.unit (s := S48x48x48) ![0, 0, 47] S48x48x1.size inb_S48x48x48_S48x48x1_0_0_47

/-- The sum a device forms of its own block, as if there were zeros around it. -/
def ownSum (u : FVec F S48x48x48 .bf16) : FVec F S48x48x48 .bf16 := k0_pay14 (k0_pay4 u) k0_pay12 (k0_pay13 (k0_pay4 u))

/-- The face `g` added to the side of the block in direction `r`. -/
def addFace (r : Fin 6) (o : FVec F S48x48x48 .bf16) (g : FVec F S1x48x48 .bf16) : FVec F S48x48x48 .bf16 :=
  match r with
  | 0 => putPart lowX o (k0_pay15 (partOf lowX o) g)
  | 1 => putPart highX o (k0_pay16 (partOf highX o) g)
  | 2 => putPart lowY2 o (updateSlice (partOf lowY2 o) (k0_pay17 (partOf lowY o) g) ![0, 0, 0] slices_S48x2x48_S48x1x48_0_0_0)
  | 3 => putPart highY2 o (updateSlice (partOf highY2 o) (k0_pay18 (partOf highY o) g) ![0, 1, 0] slices_S48x2x48_S48x1x48_0_1_0)
  | 4 => putPart lowZ o (k0_pay19 (partOf lowZ o) g)
  | 5 => putPart highZ o (k0_pay20 (partOf highZ o) g)

/-- The side of the block in direction `s` set to zero. -/
def clearSide (s : Fin 6) (o : FVec F S48x48x48 .bf16) : FVec F S48x48x48 .bf16 :=
  match s with
  | 0 => putPart lowX o k0_pay22
  | 1 => putPart highX o k0_pay23
  | 2 => putPart lowY2 o (updateSlice (partOf lowY2 o) k0_pay24 ![0, 0, 0] slices_S48x2x48_S48x1x48_0_0_0)
  | 3 => putPart highY2 o (updateSlice (partOf highY2 o) (k0_pay1 k0_pay21) ![0, 1, 0] slices_S48x2x48_S48x1x48_0_1_0)
  | 4 => putPart lowZ o (k0_pay2 k0_pay21)
  | 5 => putPart highZ o (k0_pay3 k0_pay21)

/-- The face that came into slot `r` is added, if one came; -/
def added (c : Dev nD) (r : Fin 6) (o : FVec F S48x48x48 .bf16) : FVec F S48x48x48 .bf16 :=
  if has c r then addFace r o (faceGot m c r) else o
/-- the side in direction `s` is set to zero, if there is no neighbour. -/
def cleared (c : Dev nD) (s : Fin 6) (o : FVec F S48x48x48 .bf16) : FVec F S48x48x48 .bf16 :=
  if has c s then o else clearSide s o

/-- The block after all faces, -/
def summed (c : Dev nD) : FVec F S48x48x48 .bf16 :=
  added m c 5 (added m c 4 (added m c 3 (added m c 2 (added m c 1 (added m c 0 (ownSum (blockOf m c)))))))
/-- and the device's block of the result. -/
def outAt (c : Dev nD) : FVec F S48x48x48 .bf16 :=
  cleared c 5 (cleared c 4 (cleared c 3 (cleared c 2 (cleared c 1 (cleared c 0 (summed m c))))))

/-! ## The conditions -/

theorem bit_iff (c : Dev nD) (s : Fin 6) : (Scalar.cmpi .ne (Scalar.extui (bit c s) : BitVec 32) 0#32 = 1#1) ↔ has c s := by
  unfold bit
  by_cases h : has c s
  · rw [if_pos h]; exact ⟨fun _ => h, fun _ => by decide⟩
  · rw [if_neg h]; exact ⟨fun e => absurd e (by decide), fun e => absurd e h⟩
theorem border_0 (c : Dev nD) : (Scalar.cmpi .ne (Scalar.extui (Scalar.cmpi .eq (placeX c) 0#32) : BitVec 32) 0#32 = 1#1) ↔ ¬ has c 0 := by
  revert c; decide
theorem border_1 (c : Dev nD) : (Scalar.cmpi .ne (Scalar.extui (Scalar.cmpi .eq (placeX c) 1#32) : BitVec 32) 0#32 = 1#1) ↔ ¬ has c 1 := by
  revert c; decide
theorem border_2 (c : Dev nD) : (Scalar.cmpi .ne (Scalar.extui (Scalar.cmpi .eq (placeY c) 0#32) : BitVec 32) 0#32 = 1#1) ↔ ¬ has c 2 := by
  revert c; decide
theorem border_3 (c : Dev nD) : (Scalar.cmpi .ne (Scalar.extui (Scalar.cmpi .eq (placeY c) 3#32) : BitVec 32) 0#32 = 1#1) ↔ ¬ has c 3 := by
  revert c; decide
theorem border_4 (c : Dev nD) : (Scalar.cmpi .ne (Scalar.extui (Scalar.cmpi .eq (placeZ c) 0#32) : BitVec 32) 0#32 = 1#1) ↔ ¬ has c 4 := by
  revert c; decide
theorem border_5 (c : Dev nD) : (Scalar.cmpi .ne (Scalar.extui (Scalar.cmpi .eq (placeZ c) 3#32) : BitVec 32) 0#32 = 1#1) ↔ ¬ has c 5 := by
  revert c; decide

/-- A store over the whole block leaves what was stored. -/
theorem put_whole (c : Dev nD) (o w : FVec F S48x48x48 .bf16) {α : Type}
    {hl : outM.view.LoadsAt wholeR.toLoadRect} {hst : (outM.access wholeR).Stores Finset.univ}
    {hm : (Finset.univ : Finset wholeR.shape.Idx) = Finset.univ ∨ ∀ a, wholeR.stride a = 1}
    (k : Prog (TpuEff nD τ sig (Elt F) Λ₀ .tc) α) (Q : α → sProp 𝕄) :
    outPts c o
      ⊢ iprop((outPts c w -∗ wp frame (wpE (defs₀ (F := F)) 𝒱₀ (c : Thread nD τ) none) Set.univ k Q)
        -∗ wp frame (wpE (defs₀ (F := F)) 𝒱₀ (c : Thread nD τ) none) Set.univ
            (.op (.load outM wholeR.toLoadRect hl) fun _ => .op (.store outM wholeR w Finset.univ hst hm) fun _ => k) Q) := by
  have e : (outM.access wholeR).write (Elt F) o w Finset.univ = w := Memref.write_access_unit_zero_univ (Elt F) cc0_stg1_0 off_zero _ _ _
  unfold outPts
  iintro Ho Hk
  iapply (wp_load 𝒱₀ (c : Thread nD τ) none Set.univ (m := outM) (S := Finset.univ) (f := o) (Finset.subset_univ _)) $$ Ho
  iintro Ho
  iapply (wp_store 𝒱₀ (c : Thread nD τ) none Set.univ (m := outM) (f := o) (r := wholeR) (Mk := Finset.univ) (S := Finset.univ) (Finset.subset_univ _)) $$ Ho
  rw [e]
  iintro Ho
  iapply Hk
  iexact Ho

set_option maxHeartbeats 3200000 in
/-- The fourth stretch: the sum, the six faces, and the first three sides. -/
theorem part4_spec (c : Dev nD) (o : FVec F S48x48x48 .bf16) (Φ : (Σ' (v126 : FVec F S48x48 .bf16), BitVec 32) → sProp 𝕄) :
    iprop(records m K ∗ owing c 0 ∗ outPts c o ∗ (coming c 0 ∗ kept c 0 ∗ atPos EH (recvCell c 0) 0 ∅ 0) ∗ (coming c 1 ∗ kept c 1 ∗ atPos EH (recvCell c 1) 0 ∅ 0) ∗ (coming c 2 ∗ kept c 2 ∗ atPos EH (recvCell c 2) 0 ∅ 0) ∗ (coming c 3 ∗ kept c 3 ∗ atPos EH (recvCell c 3) 0 ∅ 0) ∗ (coming c 4 ∗ kept c 4 ∗ atPos EH (recvCell c 4) 0 ∅ 0) ∗ (coming c 5 ∗ kept c 5 ∗ atPos EH (recvCell c 5) 0 ∅ 0))
      ⊢ iprop(((owing c 0 ∗ outPts c (cleared c 2 (cleared c 1 (cleared c 0 (summed m c)))) ∗ (recvAny c 0 ∗ atPos EH (recvCell c 0) (lastRound c 0) ∅ 0) ∗ (recvAny c 1 ∗ atPos EH (recvCell c 1) (lastRound c 1) ∅ 0) ∗ (recvAny c 2 ∗ atPos EH (recvCell c 2) (lastRound c 2) ∅ 0) ∗ (recvAny c 3 ∗ atPos EH (recvCell c 3) (lastRound c 3) ∅ 0) ∗ (recvAny c 4 ∗ atPos EH (recvCell c 4) (lastRound c 4) ∅ 0) ∗ (recvAny c 5 ∗ atPos EH (recvCell c 5) (lastRound c 5) ∅ 0))
            -∗ Φ ⟨k0_pay21, 3#32⟩)
        -∗ wp frame (wpE (defs₀ (F := F)) 𝒱₀ (c : Thread nD τ) none) Set.univ
          (k0_part4 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 (placeX c) (placeY c) (placeZ c) (bit c 0) (bit c 1) (bit c 2) (bit c 3) (bit c 4) (bit c 5)
            (k0_pay4 (blockOf m c)) k0_pay12 (k0_pay13 (k0_pay4 (blockOf m c)))) Φ) := by
  rw [k0_part4_eq_skeleton]; unfold k0_part4_skel
  simp -zeta only [storeSubelements, Prog.lift, Prog.bind_op, Prog.bind_ret, Prog.pure_eq_ret]
  iintro ⟨#HR, HO, Ho, ⟨C0, S0, A0⟩, ⟨C1, S1, A1⟩, ⟨C2, S2, A2⟩, ⟨C3, S3, A3⟩, ⟨C4, S4, A4⟩, ⟨C5, S5, A5⟩⟩ Hk
  iapply (put_whole c o (ownSum (blockOf m c)) _ _) $$ Ho
  iintro Ho
  extract_lets _ _ _ _ _ _ _ _ _ _ _ _ _ _ _ _ _ _ _ _ _ z2 z1 z0 k5 _ _ _ _ k4 _ _ _ _ k3 _ _ _ _ k2 _ _ _ _ k1 _ _ _ _ k0 _ _ _ _
  iapply (add_when m K c 0 0 (bit_iff c 0) lowX k0_pay15 (ownSum (blockOf m c)) (added m c 0 (ownSum (blockOf m c))) rfl _ _) $$ [HO Ho C0 S0 A0]
  · isplitr; · iexact HR
    isplitl [HO]; · iexact HO
    isplitl [C0]; · iexact C0
    isplitl [S0]; · iexact S0
    isplitl [A0] <;> iassumption
  iintro ⟨HO, S0, A0, Ho⟩
  simp -zeta only [k0]
  iapply (add_when m K c 1 0 (bit_iff c 1) highX k0_pay16 (added m c 0 (ownSum (blockOf m c))) (added m c 1 (added m c 0 (ownSum (blockOf m c)))) rfl _ _) $$ [HO Ho C1 S1 A1]
  · isplitr; · iexact HR
    isplitl [HO]; · iexact HO
    isplitl [C1]; · iexact C1
    isplitl [S1]; · iexact S1
    isplitl [A1] <;> iassumption
  iintro ⟨HO, S1, A1, Ho⟩
  simp -zeta only [k1]
  iapply (add_when_within m K c 2 0 (bit_iff c 2) lowY lowY2 k0_pay17 (fun v old => updateSlice old v ![0, 0, 0] slices_S48x2x48_S48x1x48_0_0_0) (added m c 1 (added m c 0 (ownSum (blockOf m c)))) (added m c 2 (added m c 1 (added m c 0 (ownSum (blockOf m c))))) rfl _ _) $$ [HO Ho C2 S2 A2]
  · isplitr; · iexact HR
    isplitl [HO]; · iexact HO
    isplitl [C2]; · iexact C2
    isplitl [S2]; · iexact S2
    isplitl [A2] <;> iassumption
  iintro ⟨HO, S2, A2, Ho⟩
  simp -zeta only [k2]
  iapply (add_when_within m K c 3 0 (bit_iff c 3) highY highY2 k0_pay18 (fun v old => updateSlice old v ![0, 1, 0] slices_S48x2x48_S48x1x48_0_1_0) (added m c 2 (added m c 1 (added m c 0 (ownSum (blockOf m c))))) (added m c 3 (added m c 2 (added m c 1 (added m c 0 (ownSum (blockOf m c)))))) rfl _ _) $$ [HO Ho C3 S3 A3]
  · isplitr; · iexact HR
    isplitl [HO]; · iexact HO
    isplitl [C3]; · iexact C3
    isplitl [S3]; · iexact S3
    isplitl [A3] <;> iassumption
  iintro ⟨HO, S3, A3, Ho⟩
  simp -zeta only [k3]
  iapply (add_when m K c 4 0 (bit_iff c 4) lowZ k0_pay19 (added m c 3 (added m c 2 (added m c 1 (added m c 0 (ownSum (blockOf m c)))))) (added m c 4 (added m c 3 (added m c 2 (added m c 1 (added m c 0 (ownSum (blockOf m c))))))) rfl _ _) $$ [HO Ho C4 S4 A4]
  · isplitr; · iexact HR
    isplitl [HO]; · iexact HO
    isplitl [C4]; · iexact C4
    isplitl [S4]; · iexact S4
    isplitl [A4] <;> iassumption
  iintro ⟨HO, S4, A4, Ho⟩
  simp -zeta only [k4]
  iapply (add_when m K c 5 0 (bit_iff c 5) highZ k0_pay20 (added m c 4 (added m c 3 (added m c 2 (added m c 1 (added m c 0 (ownSum (blockOf m c))))))) (added m c 5 (added m c 4 (added m c 3 (added m c 2 (added m c 1 (added m c 0 (ownSum (blockOf m c)))))))) rfl _ _) $$ [HO Ho C5 S5 A5]
  · isplitr; · iexact HR
    isplitl [HO]; · iexact HO
    isplitl [C5]; · iexact C5
    isplitl [S5]; · iexact S5
    isplitl [A5] <;> iassumption
  iintro ⟨HO, S5, A5, Ho⟩
  simp -zeta only [k5]
  ihave Ho := (show outPts c (added m c 5 (added m c 4 (added m c 3 (added m c 2 (added m c 1 (added m c 0 (ownSum (blockOf m c)))))))) ⊢ outPts c (summed m c) from .refl) $$ Ho
  iapply (put_when c 0 (border_0 c) lowX k0_pay22 (summed m c) (cleared c 0 (summed m c)) rfl _ _) $$ Ho
  iintro Ho
  simp -zeta only [z0]
  iapply (put_when c 1 (border_1 c) highX k0_pay23 (cleared c 0 (summed m c)) (cleared c 1 (cleared c 0 (summed m c))) rfl _ _) $$ Ho
  iintro Ho
  simp -zeta only [z1]
  iapply (put_when_within c 2 (border_2 c) lowY lowY2 (fun old => updateSlice old k0_pay24 ![0, 0, 0] slices_S48x2x48_S48x1x48_0_0_0) (cleared c 1 (cleared c 0 (summed m c))) (cleared c 2 (cleared c 1 (cleared c 0 (summed m c)))) rfl _ _) $$ Ho
  iintro Ho
  simp -zeta only [z2]
  rw [wp_ret]
  imodintro
  iapply Hk
  isplitl [HO]; · iexact HO
  isplitl [Ho]; · iexact Ho
  isplitl [S0 A0]; · isplitl [S0] <;> iassumption
  isplitl [S1 A1]; · isplitl [S1] <;> iassumption
  isplitl [S2 A2]; · isplitl [S2] <;> iassumption
  isplitl [S3 A3]; · isplitl [S3] <;> iassumption
  isplitl [S4 A4]; · isplitl [S4] <;> iassumption
  isplitl [S5] <;> iassumption

end Cert.KernelIdeal.Halo

end
-- ==== Proof.KernelIdeal.Body.lean ====
/-
# The body of the kernel

The five stretches put together: from what a device holds at launch to its block of the result, with both buffers whole
again and all of its semaphores at zero.
-/
module

public import proofs.«01_k».proof.Proof.KernelIdeal.Receive

@[expose] public section

set_option maxRecDepth 16384

noncomputable section

namespace Cert.KernelIdeal.Halo

open Cert.KernelIdeal Cert.KernelIdeal.Gen Cert.Box

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellName → ℕ)

/-- The positions of a device in its cells, and the tokens it pays with. -/
def ghost (c : Dev nD) : sProp 𝕄 :=
  iprop(records m K
    ∗ atPos EH (barCell c) 0 ∅ 0
    ∗ (bigSep Finset.univ fun s : Fin 6 => atPos EH (sendCell c s) 0 ∅ 0)
    ∗ (bigSep Finset.univ fun s : Fin 6 => atPos EH (recvCell c s) 0 ∅ 0)
    ∗ (bigSep Finset.univ fun s : Fin 6 => dutyTok EH (barCell (beside c s)) 0 (opp s))
    ∗ (bigSep Finset.univ fun s : Fin 6 => dutyTok EH (sendCell c s) 0 0)
    ∗ (bigSep Finset.univ fun s : Fin 6 => dutyTok EH (recvCell (beside c s) (opp s)) 0 0))

/-- Both buffers, in slots. -/
def slots (c : Dev nD) : sProp 𝕄 := iprop(bigSep Finset.univ (sentAny (F := F) c) ∗ bigSep Finset.univ (recvAny (F := F) c))

/-- All semaphores of a device at zero. -/
def allZero (c : Dev nD) : sProp 𝕄 :=
  iprop(semVal (barCell c) 0 ∗ (bigSep Finset.univ fun s : Fin 6 => semVal (sendCell c s) 0) ∗ (bigSep Finset.univ fun s : Fin 6 => semVal (recvCell c s) 0))

set_option maxHeartbeats 6400000 in
/-- The body of the kernel, from launch to its end. -/
theorem body_spec (c : Dev nD) (o : FVec F S48x48x48 .bf16) (Φ : PUnit → sProp 𝕄) :
    iprop(ghost m K c ∗ levAts L lv ∗ owing c (owesAll c) ∗ cred (tallyAt (barCell c) () (degree c)) ∗ bigSep Finset.univ (coming c)
        ∗ slots c ∗ inPts m c ∗ outPts c o)
      ⊢ iprop(((owing c 0 ∗ inPts m c ∗ outPts c (outAt m c) ∗ slots c ∗ allZero c) -∗ Φ ⟨⟩)
        -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Φ) := by
  rw [cc0_body_eq_skeleton]; unfold cc0_body_skel
  simp -zeta only [storeSubelements, Prog.lift, Prog.bind_op, Prog.bind_ret, Prog.pure_eq_ret, wp_bind]
  unfold ghost slots
  iintro ⟨⟨#HR, Hat, Has, Har, Htb, Hts, Htr⟩, #Hlev, HO, Hcr, Hco, ⟨Hsb, Hrb⟩, Hin, Ho⟩ Hk
  ihave Has := (Entails.of_eq (six (fun s => atPos EH (sendCell c s) 0 ∅ 0))) $$ Has
  icases Has with ⟨As0, As1, As2, As3, As4, As5⟩
  ihave Har := (Entails.of_eq (six (fun s => atPos EH (recvCell c s) 0 ∅ 0))) $$ Har
  icases Har with ⟨Ar0, Ar1, Ar2, Ar3, Ar4, Ar5⟩
  ihave Htb := (Entails.of_eq (six (fun s => dutyTok EH (barCell (beside c s)) 0 (opp s)))) $$ Htb
  icases Htb with ⟨Tb0, Tb1, Tb2, Tb3, Tb4, Tb5⟩
  ihave Hts := (Entails.of_eq (six (fun s => dutyTok EH (sendCell c s) 0 0))) $$ Hts
  icases Hts with ⟨Ts0, Ts1, Ts2, Ts3, Ts4, Ts5⟩
  ihave Htr := (Entails.of_eq (six (fun s => dutyTok EH (recvCell (beside c s) (opp s)) 0 0))) $$ Htr
  icases Htr with ⟨Tr0, Tr1, Tr2, Tr3, Tr4, Tr5⟩
  ihave Hco := (Entails.of_eq (six (coming c))) $$ Hco
  icases Hco with ⟨C0, C1, C2, C3, C4, C5⟩
  ihave Hsb := (Entails.of_eq (six (sentAny c))) $$ Hsb
  icases Hsb with ⟨S0, S1, S2, S3, S4, S5⟩
  ihave Hrb := (Entails.of_eq (six (recvAny c))) $$ Hrb
  icases Hrb with ⟨R0, R1, R2, R3, R4, R5⟩
  iapply (part1_spec m K c _) $$ [HO Tb0 Tb1 Tb2 Tb3 R0 R1 R2 R3]
  · isplitr; · iexact HR
    isplitl [HO]; · iexact HO
    isplitl [Tb0 R0]; · isplitl [Tb0] <;> iassumption
    isplitl [Tb1 R1]; · isplitl [Tb1] <;> iassumption
    isplitl [Tb2 R2]; · isplitl [Tb2] <;> iassumption
    isplitl [Tb3] <;> iassumption
  iintro %w0 %w1 %w2 %w3 %w4 %w5 ⟨HO, R0, R1, R2, R3⟩
  beta_reduce
  iapply (part2_spec m K c _ _ _ _ _ _) $$ [HO Tb4 Tb5 R4 R5 Hin S0 S1 S2 S3 S4]
  · isplitr; · iexact HR
    isplitl [HO]; · iexact HO
    isplitl [Tb4 R4]; · isplitl [Tb4] <;> iassumption
    isplitl [Tb5 R5]; · isplitl [Tb5] <;> iassumption
    isplitl [Hin]; · iexact Hin
    isplitl [S0]; · iexact S0
    isplitl [S1]; · iexact S1
    isplitl [S2]; · iexact S2
    isplitl [S3] <;> iassumption
  iintro ⟨HO, R4, R5, Hin, S0, S1, S2, S3, S4⟩
  beta_reduce
  iapply (part3_spec m K c _ _ _ _ _ _ _ _ _ _ _ _ _ _ _ _) $$ [HO Hcr Hat S0 S1 S2 S3 S4 S5 Ts0 Ts1 Ts2 Ts3 Ts4 Ts5 Tr0 Tr1 Tr2 Tr3 Tr4 Tr5]
  · isplitr; · iexact HR
    isplitr; · iexact Hlev
    isplitl [HO]; · iexact HO
    isplitl [Hcr]; · iexact Hcr
    isplitl [Hat]; · iexact Hat
    isplitl [S0]; · iexact S0
    isplitl [S1]; · iexact S1
    isplitl [S2]; · iexact S2
    isplitl [S3]; · iexact S3
    isplitl [S4]; · iexact S4
    isplitl [S5]; · iexact S5
    isplitl [Ts0 Tr0]; · isplitl [Ts0] <;> iassumption
    isplitl [Ts1 Tr1]; · isplitl [Ts1] <;> iassumption
    isplitl [Ts2 Tr2]; · isplitl [Ts2] <;> iassumption
    isplitl [Ts3 Tr3]; · isplitl [Ts3] <;> iassumption
    isplitl [Ts4 Tr4]; · isplitl [Ts4] <;> iassumption
    isplitl [Ts5] <;> iassumption
  iintro ⟨HO, Hat, S0, S1, S2, S3, S4, S5⟩
  beta_reduce
  iapply (part4_spec m K c o _) $$ [HO Ho C0 C1 C2 C3 C4 C5 R0 R1 R2 R3 R4 R5 Ar0 Ar1 Ar2 Ar3 Ar4 Ar5]
  · isplitr; · iexact HR
    isplitl [HO]; · iexact HO
    isplitl [Ho]; · iexact Ho
    isplitl [C0 R0 Ar0]
    · isplitl [C0]; · iexact C0
      isplitl [R0] <;> iassumption
    isplitl [C1 R1 Ar1]
    · isplitl [C1]; · iexact C1
      isplitl [R1] <;> iassumption
    isplitl [C2 R2 Ar2]
    · isplitl [C2]; · iexact C2
      isplitl [R2] <;> iassumption
    isplitl [C3 R3 Ar3]
    · isplitl [C3]; · iexact C3
      isplitl [R3] <;> iassumption
    isplitl [C4 R4 Ar4]
    · isplitl [C4]; · iexact C4
      isplitl [R4] <;> iassumption
    isplitl [C5]; · iexact C5
    isplitl [R5] <;> iassumption
  iintro ⟨HO, Ho, ⟨R0, Ar0⟩, ⟨R1, Ar1⟩, ⟨R2, Ar2⟩, ⟨R3, Ar3⟩, ⟨R4, Ar4⟩, ⟨R5, Ar5⟩⟩
  beta_reduce
  extract_lets q0 q1 q2 q3 q4 q5 q6 q7 q8 q9 q10 q11 q12 q13 q14 q15 q16 q17 b5_0 b5_1 b5_2 b5_3 b5_4 b5_5 kw5 b4_0 b4_1 b4_2 b4_3 b4_4 b4_5 kw4 b3_0 b3_1 b3_2 b3_3 b3_4 b3_5 kw3 b2_0 b2_1 b2_2 b2_3 b2_4 b2_5 kw2 b1_0 b1_1 b1_2 b1_3 b1_4 b1_5 kw1 b0_0 b0_1 b0_2 b0_3 b0_4 b0_5 kw0 k24 k23
  iapply (put_when_within c 3 (border_3 c) highY highY2 (fun old => updateSlice old (k0_pay1 k0_pay21) ![0, 1, 0] slices_S48x2x48_S48x1x48_0_1_0) (cleared c 2 (cleared c 1 (cleared c 0 (summed m c)))) (cleared c 3 (cleared c 2 (cleared c 1 (cleared c 0 (summed m c))))) rfl _ _) $$ Ho
  iintro Ho
  simp -zeta only [k23]
  iapply (put_when c 4 (border_4 c) lowZ (k0_pay2 k0_pay21) (cleared c 3 (cleared c 2 (cleared c 1 (cleared c 0 (summed m c))))) (cleared c 4 (cleared c 3 (cleared c 2 (cleared c 1 (cleared c 0 (summed m c)))))) rfl _ _) $$ Ho
  iintro Ho
  simp -zeta only [k24]
  iapply (put_when c 5 (border_5 c) highZ (k0_pay3 k0_pay21) (cleared c 4 (cleared c 3 (cleared c 2 (cleared c 1 (cleared c 0 (summed m c)))))) (outAt m c) rfl _ _) $$ Ho
  iintro Ho
  simp -zeta only [kw0]
  iapply (wait_sent_when m K c 0 1 (bit_iff c 0) _ _) $$ [HO S0 As0]
  · isplitr; · iexact HR
    isplitl [HO]; · iexact HO
    isplitl [S0] <;> iassumption
  iintro ⟨HO, S0, As0⟩
  simp -zeta only [kw1]
  iapply (wait_sent_when m K c 1 0 (bit_iff c 1) _ _) $$ [HO S1 As1]
  · isplitr; · iexact HR
    isplitl [HO]; · iexact HO
    isplitl [S1] <;> iassumption
  iintro ⟨HO, S1, As1⟩
  simp -zeta only [kw2]
  iapply (wait_sent_when m K c 2 3 (bit_iff c 2) _ _) $$ [HO S2 As2]
  · isplitr; · iexact HR
    isplitl [HO]; · iexact HO
    isplitl [S2] <;> iassumption
  iintro ⟨HO, S2, As2⟩
  simp -zeta only [kw3]
  iapply (wait_sent_when m K c 3 2 (bit_iff c 3) _ _) $$ [HO S3 As3]
  · isplitr; · iexact HR
    isplitl [HO]; · iexact HO
    isplitl [S3] <;> iassumption
  iintro ⟨HO, S3, As3⟩
  simp -zeta only [kw4]
  iapply (wait_sent_when m K c 4 5 (bit_iff c 4) _ _) $$ [HO S4 As4]
  · isplitr; · iexact HR
    isplitl [HO]; · iexact HO
    isplitl [S4] <;> iassumption
  iintro ⟨HO, S4, As4⟩
  simp -zeta only [kw5]
  iapply (wait_sent_when m K c 5 4 (bit_iff c 5) _ _) $$ [HO S5 As5]
  · isplitr; · iexact HR
    isplitl [HO]; · iexact HO
    isplitl [S5] <;> iassumption
  iintro ⟨HO, S5, As5⟩
  rw [wp_ret]
  imod (close_bar m K c) $$ [Hat] with Zb
  · isplitr; · iexact HR
    iexact Hat
  imod (close_send m K c 0) $$ [As0] with Zs0
  · isplitr; · iexact HR
    iexact As0
  imod (close_send m K c 1) $$ [As1] with Zs1
  · isplitr; · iexact HR
    iexact As1
  imod (close_send m K c 2) $$ [As2] with Zs2
  · isplitr; · iexact HR
    iexact As2
  imod (close_send m K c 3) $$ [As3] with Zs3
  · isplitr; · iexact HR
    iexact As3
  imod (close_send m K c 4) $$ [As4] with Zs4
  · isplitr; · iexact HR
    iexact As4
  imod (close_send m K c 5) $$ [As5] with Zs5
  · isplitr; · iexact HR
    iexact As5
  imod (close_recv m K c 0) $$ [Ar0] with Zr0
  · isplitr; · iexact HR
    iexact Ar0
  imod (close_recv m K c 1) $$ [Ar1] with Zr1
  · isplitr; · iexact HR
    iexact Ar1
  imod (close_recv m K c 2) $$ [Ar2] with Zr2
  · isplitr; · iexact HR
    iexact Ar2
  imod (close_recv m K c 3) $$ [Ar3] with Zr3
  · isplitr; · iexact HR
    iexact Ar3
  imod (close_recv m K c 4) $$ [Ar4] with Zr4
  · isplitr; · iexact HR
    iexact Ar4
  imod (close_recv m K c 5) $$ [Ar5] with Zr5
  · isplitr; · iexact HR
    iexact Ar5
  imodintro
  iapply Hk
  isplitl [HO]; · iexact HO
  isplitl [Hin]; · iexact Hin
  isplitl [Ho]; · iexact Ho
  isplitl [S0 S1 S2 S3 S4 S5 R0 R1 R2 R3 R4 R5]
  · isplitl [S0 S1 S2 S3 S4 S5]
    · iapply (Entails.of_eq (six (sentAny c)).symm)
      iframe
    · iapply (Entails.of_eq (six (recvAny c)).symm)
      iframe
  unfold allZero
  isplitl [Zb]; · iexact Zb
  isplitl [Zs0 Zs1 Zs2 Zs3 Zs4 Zs5]
  · iapply (Entails.of_eq (six (fun s => semVal (sendCell c s) 0)).symm)
    iframe
  · iapply (Entails.of_eq (six (fun s => semVal (recvCell c s) 0)).symm)
    iframe

end Cert.KernelIdeal.Halo

end
-- ==== Proof.KernelIdeal.Launch.lean ====
/-
# The launch

From the state at launch — any memory, every counter at zero — every execution ends, with each device's result holding
its block as computed, the input unchanged and every semaphore at zero again.
-/
module

public import proofs.«01_k».proof.Proof.KernelIdeal.Body
public import Idealize.ShloMosaic.Lib.Ring
public import Idealize.ShloMosaic.Lib.Pipeline.ValueKit
public import Idealize.ShloMosaic.Lib.Pipeline.CollectiveSegs

@[expose] public section

set_option maxRecDepth 16384

noncomputable section

namespace Cert.KernelIdeal.Halo

open Cert.KernelIdeal Cert.KernelIdeal.Gen Cert.Box

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The buffers in slots -/

theorem slotOff_lead (s : Fin 6) : slotOff s (0 : Fin 3) = 1 * s.val := by revert s; decide
theorem slotOff_rest (s : Fin 6) (a : Fin 3) (ha : a ≠ 0) : slotOff s a = 0 := by revert s a; decide

theorem slots_disjoint (b b' : Fin 6) (h : b ≠ b') : Disjoint (slotRect b).set (slotRect b').set :=
  Ring.lead_disjoint (s := S6x48x48) (0 : Fin 3) 1 slotOff S1x48x48.size slotOff_inb slotOff_lead rfl b b' h
theorem slots_cover : (Finset.univ.biUnion fun b : Fin 6 => (slotRect b).set) = Finset.univ :=
  Ring.lead_cover (s := S6x48x48) (0 : Fin 3) 1 slotOff S1x48x48.size slotOff_inb slotOff_lead slotOff_rest rfl (by decide) rfl

theorem sentSet_eq (s : Fin 6) : sentSet s = (slotRect s).set := View.set_slice_whole _ _
theorem recvSet_eq (s : Fin 6) : recvSet s = (slotRect s).set := View.set_slice_whole _ _

theorem sent_disjoint (b b' : Fin 6) (h : b ≠ b') : Disjoint (sentSet b) (sentSet b') := by
  rw [sentSet_eq, sentSet_eq]; exact slots_disjoint b b' h
theorem recv_disjoint (b b' : Fin 6) (h : b ≠ b') : Disjoint (recvSet b) (recvSet b') := by
  rw [recvSet_eq, recvSet_eq]; exact slots_disjoint b b' h
theorem sent_cover : (Finset.univ.biUnion fun b : Fin 6 => sentSet b) = Finset.univ := by
  simp only [sentSet_eq]; exact slots_cover
theorem recv_cover : (Finset.univ.biUnion fun b : Fin 6 => recvSet b) = Finset.univ := by
  simp only [recvSet_eq]; exact slots_cover

/-- A buffer held whole is its six slots held. -/
theorem sent_slots (c : Dev nD) (f : Buf (Elt F) ((c : Thread nD τ).loc cc0_scratch0)) :
    (((c : Thread nD τ).loc cc0_scratch0) ↦{fullShare} f : sProp 𝕄) = bigSep Finset.univ fun s : Fin 6 => sentPts c s f :=
  Ring.pointsTo_blocks (ℓ := (c : Thread nD τ).loc cc0_scratch0) sentSet sent_disjoint sent_cover f
theorem recv_slots (c : Dev nD) (f : Buf (Elt F) ((c : Thread nD τ).loc cc0_scratch1)) :
    (((c : Thread nD τ).loc cc0_scratch1) ↦{fullShare} f : sProp 𝕄) = bigSep Finset.univ fun s : Fin 6 => recvPts c s f :=
  Ring.pointsTo_blocks (ℓ := (c : Thread nD τ).loc cc0_scratch1) recvSet recv_disjoint recv_cover f

theorem sentAny_intro (c : Dev nD) (s : Fin 6) (f) : sentPts c s f ⊢ (sentAny c s : sProp 𝕄) := by
  unfold sentAny; iintro H; iexists f; iexact H
theorem recvAny_intro (c : Dev nD) (s : Fin 6) (f) : recvPts c s f ⊢ (recvAny c s : sProp 𝕄) := by
  unfold recvAny; iintro H; iexists f; iexact H

/-- Both buffers whole, at some contents, are their slots; -/
theorem slots_of_whole (c : Dev nD) :
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) ⊢ (slots c : sProp 𝕄) := by
  have hs (f) : (bigSep Finset.univ fun s : Fin 6 => sentPts c s f) ⊢ (bigSep Finset.univ (sentAny c) : sProp 𝕄) :=
    bigSep_mono fun s _ => sentAny_intro c s f
  have hr (f) : (bigSep Finset.univ fun s : Fin 6 => recvPts c s f) ⊢ (bigSep Finset.univ (recvAny c) : sProp 𝕄) :=
    bigSep_mono fun s _ => recvAny_intro c s f
  unfold slots
  iintro ⟨⟨%f, Hs⟩, ⟨%g, Hr⟩⟩
  isplitl [Hs]
  · ihave Hs := (Entails.of_eq (sent_slots c f)) $$ Hs
    iapply (hs f); iexact Hs
  · ihave Hr := (Entails.of_eq (recv_slots c g)) $$ Hr
    iapply (hr g); iexact Hr

/-- and the slots are both buffers whole again. -/
theorem whole_of_slots (m : (ℓ : Loc nD τ sig) → Buf (Elt F) ℓ) (c : Dev nD) :
    (slots c : sProp 𝕄)
      ⊢ iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) := by
  unfold slots sentAny recvAny sentPts recvPts
  iintro ⟨Hs, Hr⟩
  isplitl [Hs]
  · iapply (Ring.pointsTo_blocks_join_exists (ℓ := (c : Thread nD τ).loc cc0_scratch0) sentSet sent_disjoint sent_cover (m _)); iexact Hs
  · iapply (Ring.pointsTo_blocks_join_exists (ℓ := (c : Thread nD τ).loc cc0_scratch1) recvSet recv_disjoint recv_cover (m _)); iexact Hr

/-! ## The data of the launch -/

/-- What the body of device `c` starts from. -/
def start (c : Dev nD) : sProp 𝕄 :=
  iprop((∃ K, ghost m K c) ∗ cred (tallyAt (barCell c) () (degree c)) ∗ bigSep Finset.univ (coming c) ∗ levAts L lv)

def atEntry (c : Dev nD) : sProp 𝕄 := iprop(start m c ∗ slots c)
def atExit (c : Dev nD) : sProp 𝕄 := iprop(slots c ∗ allZero c)

/-- The one point of the launch: the input staged stays what it was, the result staged is the block computed. -/
def dats (_ : Fin 1) (c : Dev nD) : Pipeline.Dat τ (Elt F) Unit ℕ UU ℕ cfg0 c where
  A w := (start₀ m ρ).mem ((cfg0.win w).arr.view.loc (c : Thread nD τ))
  after w _ := match w with
    | ⟨0, _⟩ => blockOf m c
    | ⟨1, _⟩ => outAt m c
  Φ t := match t with
    | ⟨0, _⟩ => atEntry m c
    | ⟨_ + 1, _⟩ => atExit c
  q _ := fullShare
  owed t := match t with
    | ⟨0, _⟩ => owesAll c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole, its contents being `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(atEntry m c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def bodyPost (c : Dev nD) : sProp 𝕄 :=
  iprop(atExit c ∗ (dats m ρ 0 c).owesAt () t0_0.succ ∗ staged c cc0_stg0_0 (blockOf m c) ∗ staged c cc0_stg1_0 (outAt m c))

/-- Both windows stage their arrays whole. -/
theorem window_index : ∀ t : Fin cfg0.N, win0_0.index t = ![0, 0, 0] ∧ win0_1.index t = ![0, 0, 0] :=
  (by decide +kernel : ∀ t : Fin grid0.N, _)

theorem staged_whole (c : Dev nD) : (win0_0.blk t0_0).view.read (Elt F) (m ((c : Thread nD τ).loc main_arg0)) = blockOf m c := by
  blk_ext! [blockOf, window_index t0_0]

/-- What the input window stages is the device's block. -/
theorem before_in (c : Dev nD) (d) : (dats m ρ 0 c).before (0 : Fin 2) t0_0 d = blockOf m c := by
  unfold Pipeline.Dat.before
  rw [if_pos (show (cfg0.win (0 : Fin 2)).fetch t0_0 = true from rfl)]
  exact staged_whole m c

/-- The obligation of the launch for the body. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre atEntry start
  iintro ⟨⟨⟨⟨%K, Hg⟩, Hcr, Hco, Hlev⟩, Hsl⟩, Ho, ⟨%d0, %f0, %h0, Hin⟩, ⟨%d1, %f1, %h1, Hout⟩⟩
  unfold Pipeline.Dat.owesAt Pipeline.owesWithin
  icases Ho with ⟨%W, %hW, HO⟩
  rw [show (dats m ρ 0 c).owed t0_0.castSucc = owesAll c from rfl]
  rw [h0, before_in]
  iapply (body_spec m K c f1 fun _ => bodyPost m ρ c) $$ [Hg Hcr Hco Hlev Hsl HO Hin Hout]
  · isplitl [Hg]; · iexact Hg
    isplitl [Hlev]; · iexact Hlev
    isplitl [HO]; · unfold owing; iexists W; iexact HO
    isplitl [Hcr]; · iexact Hcr
    isplitl [Hco]; · iexact Hco
    isplitl [Hsl]; · iexact Hsl
    isplitl [Hin]; · unfold inPts; iexact Hin
    unfold outPts; iexact Hout
  unfold bodyPost atExit owing inPts outPts Pipeline.Dat.owesAt Pipeline.owesWithin
  iintro ⟨⟨%W', HO⟩, Hin, Hout, Hsl, Hz⟩
  isplitl [Hsl Hz]; · isplitl [Hsl] <;> iassumption
  isplitl [HO]
  · iexists W'
    isplitr; · ipureintro; exact fun _ _ => Or.inl trivial
    iexact HO
  isplitl [Hin]
  · iexists _; isplitr; · (ipureintro; rfl)
    iexact Hin
  iexists _; isplitr; · (ipureintro; rfl)
  iexact Hout

/-! ## The ghost state at launch -/

theorem ownSemFacts : Pipeline.OwnSemFacts cfg0.spec ownSem := by decide

theorem share_eq (c : Dev nD) (w : Fin cfg0.W) : (dats m ρ 0 c).share w = fullShare := by
  unfold Pipeline.Dat.share; split <;> rfl

theorem cellSem_injective : Function.Injective cellSem := by decide

theorem cellAt_injective : Function.Injective (cellAt : Dev nD × CellName → GSem nD τ sig) := by
  rintro ⟨c, k⟩ ⟨d, l⟩ h
  have h1 : c = d := congrArg (fun g : GSem nD τ sig => g.1.1) h
  have h2 : k = l := cellSem_injective (congrArg Prod.snd h)
  rw [h1, h2]

def allCells : Finset (GSem nD τ sig) := Finset.univ.map ⟨cellAt, cellAt_injective⟩

/-- A token of a device's own cells: of the barrier cell one for each direction, of every other cell one. -/
abbrev TokName : Type := Fin 6 ⊕ (Fin 6 ⊕ Fin 6)
abbrev tokKey : TokName → CellName × Fin 6
  | .inl d => (.inl (), d)
  | .inr k => (.inr k, 0)
abbrev tokAt (p : Dev nD × TokName) : GSem nD τ sig × ℕ × Fin 6 := (cellAt (p.1, (tokKey p.2).1), 0, (tokKey p.2).2)

theorem tokKey_injective : Function.Injective tokKey := by decide

theorem tokAt_injective : Function.Injective (tokAt : Dev nD × TokName → GSem nD τ sig × ℕ × Fin 6) := by
  rintro ⟨c, k⟩ ⟨d, l⟩ h
  have h1 := cellAt_injective (congrArg Prod.fst h)
  have h2 : (tokKey k).2 = (tokKey l).2 := congrArg (fun x : GSem nD τ sig × ℕ × Fin 6 => x.2.2) h
  have h3 : k = l := tokKey_injective (Prod.ext (congrArg Prod.snd h1) h2)
  have h4 : c = d := congrArg Prod.fst h1
  rw [h3, h4]

def allToks : Finset (GSem nD τ sig × ℕ × Fin 6) := Finset.univ.map ⟨tokAt, tokAt_injective⟩

def u₀ : UU :=
  (initOf (Pipeline.cells cfgs cellOf_inj) (Pipeline.launchToks cfgs cellOf_inj), initOf allCells allToks)

/-- The tokens of a device's own cells. -/
def ownToks (c : Dev nD) : sProp 𝕄 :=
  iprop((bigSep Finset.univ fun s : Fin 6 => dutyTok EH (barCell c) 0 s)
    ∗ (bigSep Finset.univ fun s : Fin 6 => dutyTok EH (sendCell c s) 0 0)
    ∗ (bigSep Finset.univ fun s : Fin 6 => dutyTok EH (recvCell c s) 0 0))
/-- The tokens a device pays with. -/
def payToks (c : Dev nD) : sProp 𝕄 :=
  iprop((bigSep Finset.univ fun s : Fin 6 => dutyTok EH (barCell (beside c s)) 0 (opp s))
    ∗ (bigSep Finset.univ fun s : Fin 6 => dutyTok EH (sendCell c s) 0 0)
    ∗ (bigSep Finset.univ fun s : Fin 6 => dutyTok EH (recvCell (beside c s) (opp s)) 0 0))

/-- What a device is dealt of the initial state, -/
def dealt (c : Dev nD) : sProp 𝕄 :=
  iprop((bigSep Finset.univ fun k : CellName => roundState EH (halo m) (cellAt (c, k)) 0)
    ∗ (bigSep Finset.univ fun k : CellName => iprop(atPos EH (cellAt (c, k)) 0 ∅ 0 ∗ reached EH (cellAt (c, k)) 0)) ∗ ownToks c)
/-- and what becomes of it. -/
def dealt' (c : Dev nD) : sProp 𝕄 := iprop(∃ K, ghost m K c)

theorem cells_sum (Φ : CellName → sProp 𝕄) :
    bigSep Finset.univ Φ = iprop(Φ (.inl ()) ∗ (bigSep Finset.univ fun s : Fin 6 => Φ (.inr (.inl s))) ∗ (bigSep Finset.univ fun s : Fin 6 => Φ (.inr (.inr s)))) := by
  rw [bigSep_univ_sum, bigSep_univ_sum, show (Finset.univ : Finset Unit) = {()} from rfl, bigSep_singleton]; rfl

theorem fund : BI.own (EH (initOf allCells allToks)) ⊢ (|==> bigSep Finset.univ (dealt m) : sProp 𝕄) := by
  have hX (Φ : GSem nD τ sig → sProp 𝕄) : bigSep allCells Φ = bigSep Finset.univ fun c : Dev nD => bigSep Finset.univ fun k : CellName => Φ (cellAt (c, k)) := by
    unfold allCells; rw [bigSep_map, bigSep_univ_prod]; rfl
  have hT : bigSep allToks (fun x => (dutyTok EH x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, bigSep_univ_sum]; rfl
  iintro HX
  imod (Rounds.fund EH (halo m) allCells allToks) $$ HX with ⟨Hst, Hr, Hat, Htok⟩
  imodintro
  ihave Hst := (Entails.of_eq (hX fun g => roundState EH (halo m) g 0)) $$ Hst
  ihave Hat := (Entails.of_eq (hX fun g => atPos EH g 0 ∅ 0)) $$ Hat
  ihave Hr := (Entails.of_eq (hX fun g => reached EH g 0)) $$ Hr
  ihave Htok := (Entails.of_eq hT) $$ Htok
  unfold dealt; simp only [bigSep_sep']
  isplitl [Hst]; · iexact Hst
  isplitl [Hat Hr]
  · isplitl [Hat] <;> iassumption
  iexact Htok

abbrev ownZero (c : Dev nD) : sProp 𝕄 :=
  Pipeline.ownSems0 (Ix := Unit) (Name := ℕ) (U := UU) (Lvl := ℕ) (Val := Elt F) (τ := τ) ownSem c

/-- The semaphores of the kernel's own are the send and the receive semaphores, -/
theorem ownZero_eq (c : Dev nD) : (ownZero c : sProp 𝕄)
    = iprop((bigSep Finset.univ fun s : Fin 6 => semVal (sendCell c s) 0) ∗ (bigSep Finset.univ fun s : Fin 6 => semVal (recvCell c s) 0)) := by
  unfold ownZero Pipeline.ownSems0; rw [bigSep_univ_sum]; rfl
/-- and the one other is the barrier semaphore. -/
theorem otherZero_eq (c : Dev nD) : (unscopedSems0 c : sProp 𝕄) = semVal (barCell c) 0 := by
  unfold unscopedSems0; rw [bigSep_eq_bigSepL_of_eq [SemLoc.reg barS] (by decide) (by decide)]; rfl

theorem cells_zero (c : Dev nD) :
    iprop(ownZero c ∗ unscopedSems0 c) ⊢ (bigSep Finset.univ fun k : CellName => semVal (cellAt (c, k)) 0 : sProp 𝕄) := by
  rw [ownZero_eq, otherZero_eq, cells_sum]
  iintro ⟨⟨HS, HV⟩, HB⟩
  isplitl [HB]; · iexact HB
  isplitl [HS] <;> iassumption

theorem alloc (c : Dev nD) :
    iprop(ownZero c ∗ unscopedSems0 c ∗ dealt m c)
      ⊢ |={Set.univ}=> iprop((bigSep Finset.univ fun k => iprop(∃ κ : ℕ, cellInv EH (halo m) κ (cellAt (c, k))))
          ∗ (bigSep Finset.univ fun k => iprop(atPos EH (cellAt (c, k)) 0 ∅ 0 ∗ reached EH (cellAt (c, k)) 0)) ∗ ownToks c) := by
  unfold dealt
  iintro ⟨Hos, Hus, Hst, Hat, Htok⟩
  ihave Hv := (cells_zero (F := F) c) $$ [Hos Hus]
  · isplitl [Hos] <;> iassumption
  imod (show iprop((bigSep Finset.univ fun k : CellName => semVal (cellAt (c, k)) 0) ∗ bigSep Finset.univ fun k : CellName => roundState EH (halo m) (cellAt (c, k)) 0)
      ⊢ (|={Set.univ}=> bigSep Finset.univ fun k => iprop(∃ κ : ℕ, cellInv EH (halo m) κ (cellAt (c, k))) : sProp 𝕄) from by
        rw [← bigSep_sep']
        exact (bigSep_mono fun k _ => (Rounds.body_intro EH (halo m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and the tokens it pays with. -/
def linear (c : Dev nD) : sProp 𝕄 := iprop((bigSep Finset.univ fun k : CellName => atPos EH (cellAt (c, k)) 0 ∅ 0) ∗ payToks c)

theorem ghost_intro (K : Dev nD × CellName → ℕ) (c : Dev nD) : iprop(records m K ∗ linear c) ⊢ dealt' m c := by
  unfold linear payToks dealt' ghost
  rw [cells_sum]
  iintro ⟨HR, ⟨HaB, HaS, HaV⟩, HtB, HtS, HtV⟩
  iexists K
  isplitl [HR]; · iexact HR
  isplitl [HaB]; · iexact HaB
  isplitl [HaS]; · iexact HaS
  isplitl [HaV]; · iexact HaV
  isplitl [HtB]; · iexact HtB
  isplitl [HtS] <;> iassumption

/-- A family over all devices and directions may be read across: at the neighbour, in the direction back. -/
theorem read_across (Φ : Dev nD → Fin 6 → sProp 𝕄) :
    (bigSep Finset.univ fun c : Dev nD => bigSep Finset.univ fun s : Fin 6 => Φ c s)
      = bigSep Finset.univ fun c : Dev nD => bigSep Finset.univ fun s : Fin 6 => Φ (beside c s) (opp s) := by
  rw [← bigSep_univ_prod (fun p : Dev nD × Fin 6 => Φ p.1 p.2), bigSep_univ_equiv across, bigSep_univ_prod]; rfl

/-- So the tokens of all cells are the tokens all devices pay with. -/
theorem toks_across : (bigSep Finset.univ fun c : Dev nD => (ownToks c : sProp 𝕄)) ⊢ bigSep Finset.univ fun c : Dev nD => payToks c := by
  unfold ownToks payToks
  rw [bigSep_sep', bigSep_sep', bigSep_sep', bigSep_sep',
    read_across (fun c s => (dutyTok EH (barCell c) 0 s : sProp 𝕄)), read_across (fun c s => (dutyTok EH (recvCell c s) 0 0 : sProp 𝕄))]

theorem regroup :
    (bigSep Finset.univ fun c : Dev nD => iprop((bigSep Finset.univ fun k => iprop(∃ κ : ℕ, cellInv EH (halo m) κ (cellAt (c, k))))
          ∗ (bigSep Finset.univ fun k => iprop(atPos EH (cellAt (c, k)) 0 ∅ 0 ∗ reached EH (cellAt (c, k)) 0)) ∗ ownToks c) : sProp 𝕄)
      ⊢ bigSep Finset.univ (dealt' m) := by
  rw [bigSep_sep', bigSep_sep', ← bigSep_univ_prod (fun p : Dev nD × CellName => iprop(∃ κ : ℕ, cellInv EH (halo m) κ (cellAt p))),
    bigSep_congr (s := Finset.univ) (fun (c : Dev nD) _ => bigSep_sep' Finset.univ (fun k : CellName => (atPos EH (cellAt (c, k)) 0 ∅ 0 : sProp 𝕄)) (fun k => reached EH (cellAt (c, k)) 0)),
    bigSep_sep', ← bigSep_univ_prod (fun p : Dev nD × CellName => (reached EH (cellAt p) 0 : sProp 𝕄))]
  iintro ⟨HI, ⟨Hat, #HR⟩, Htok⟩
  ihave HK := (BI.bigSep_exists_pi Finset.univ (fun (p : Dev nD × CellName) (κ : ℕ) => (cellInv EH (halo m) κ (cellAt p) : sProp 𝕄))) $$ HI
  icases HK with ⟨%K, #HI⟩
  ihave Htk := (toks_across (F := F)) $$ Htok
  iapply ((sep_mono_left (BI.bigSep_of_persistent (Finset.univ : Finset (Dev nD)) (records m K))).trans
    (show iprop((bigSep Finset.univ fun _ : Dev nD => records m K) ∗ bigSep Finset.univ fun c : Dev nD => (linear c : sProp 𝕄)) ⊢ bigSep Finset.univ (dealt' m) from by
      rw [← bigSep_sep']; exact bigSep_mono fun c _ => ghost_intro m K c))
  isplitr
  · unfold records; isplitl; · iexact HI
    iexact HR
  · iapply (Entails.of_eq (show iprop((bigSep Finset.univ fun c : Dev nD => bigSep Finset.univ fun k : CellName => (atPos EH (cellAt (c, k)) 0 ∅ 0 : sProp 𝕄)) ∗ bigSep Finset.univ fun c : Dev nD => payToks c)
        = bigSep Finset.univ fun c : Dev nD => (linear c : sProp 𝕄) from by unfold linear; rw [bigSep_sep']))
    isplitl [Hat]; · iexact Hat
    iexact Htk

/-- All devices at once: from their semaphores at zero and what they are dealt, the state their bodies start from. -/
theorem glob : (bigSep Finset.univ fun c => iprop(ownZero c ∗ unscopedSems0 c ∗ dealt m c) : sProp 𝕄)
    ⊢ |={Set.univ}=> bigSep Finset.univ (dealt' m) :=
  ((bigSep_mono fun c _ => alloc m c).trans (bigSep_fupd _ _)).trans (BI.fupd_mono (regroup m))

/-! ## The credit at launch -/

theorem launch_bar (c : Dev nD) :
    tallyOn (barCell c) (launchCredit (Pipeline.owing owesAll) 0 (barCell c)) = (tallyAt (barCell c) () (degree c) : CellTallies nD τ sig Unit) := by
  unfold tallyAt; refine congrArg _ (Finsupp.ext fun u => ?_); cases u
  rw [Pipeline.launchCredit_owing, Finsupp.single_eq_same, ← sum_arriving_any, Fintype.sum_prod_type]
  refine Finset.sum_congr rfl fun d _ => ?_
  rw [owesAll_apply, Finset.sum_eq_zero fun s _ => ?_, Nat.zero_add]
  · refine Finset.sum_congr rfl fun s _ => ?_
    rw [oweB_apply]
    exact if_congr (and_congr_right fun _ => ⟨fun h => (congrArg (fun g : GSem nD τ sig => g.1.1) h).symm, fun h => by rw [← h]; rfl⟩) rfl rfl
  · rw [oweR_apply, if_neg]
    rintro ⟨-, h⟩
    have : (SemLoc.reg barS : SemLoc sig) = .dma (recvSem (opp s)) := congrArg Prod.snd h
    cases this

theorem recvSem_injective : Function.Injective recvSem := by decide

theorem launch_recv (c : Dev nD) (r : Fin 6) :
    tallyOn (recvCell c r) (launchCredit (Pipeline.owing owesAll) 0 (recvCell c r))
      = (tallyAt (recvCell c r) () (if has c r then N else 0) : CellTallies nD τ sig Unit) := by
  unfold tallyAt; refine congrArg _ (Finsupp.ext fun u => ?_); cases u
  rw [Pipeline.launchCredit_owing, Finsupp.single_eq_same, ← sum_arriving N c r, Fintype.sum_prod_type]
  refine Finset.sum_congr rfl fun d _ => ?_
  rw [owesAll_apply, Finset.sum_eq_zero (f := fun s => oweB d s (recvCell c r) ()) fun s _ => ?_, Nat.add_zero]
  · refine Finset.sum_congr rfl fun s _ => ?_
    rw [oweR_apply]
    refine if_congr (and_congr_right fun _ => ⟨fun h => Prod.ext (congrArg (fun g : GSem nD τ sig => g.1.1) h).symm ?_, fun h => ?_⟩) rfl rfl
    · exact (recvSem_injective (SemLoc.dma.inj (congrArg Prod.snd h))).symm
    · have h1 : beside d s = c := congrArg Prod.fst h
      have h2 : opp s = r := congrArg Prod.snd h
      rw [h1, h2]
  · rw [oweB_apply, if_neg]
    rintro ⟨-, h⟩
    have : (SemLoc.dma (recvSem r) : SemLoc sig) = .reg barS := congrArg Prod.snd h
    cases this

theorem coming_intro (c : Dev nD) (r : Fin 6) :
    cred (tallyOn (recvCell c r) (launchCredit (Pipeline.owing owesAll) 0 (recvCell c r))) ⊢ (coming c r : sProp 𝕄) := by
  rw [launch_recv]
  unfold coming
  by_cases h : has c r
  · rw [if_pos h, if_pos h]
  · rw [if_neg h, if_neg h]; iintro -; iempintro

theorem recvLoc_injective : Function.Injective (fun r : Fin 6 => (SemLoc.dma (recvSem r) : SemLoc sig)) :=
  fun _ _ h => recvSem_injective (SemLoc.dma.inj h)

theorem creds (c : Dev nD) :
    (Pipeline.launchCred owesAll c : sProp 𝕄) ⊢ iprop(cred (tallyAt (barCell c) () (degree c)) ∗ bigSep Finset.univ (coming c)) := by
  unfold Pipeline.launchCred
  rw [bigSep_univ_at _ (SemLoc.reg barS), launch_bar]
  refine sep_mono_right ?_
  refine (bigSep_subset (t := Finset.univ.map ⟨_, recvLoc_injective⟩) fun x hx => ?_).trans ?_
  · obtain ⟨r, -, rfl⟩ := Finset.mem_map.mp hx
    exact Finset.mem_erase.mpr ⟨(by intro h; cases h), Finset.mem_univ _⟩
  · rw [bigSep_map]
    exact bigSep_mono fun r _ => coming_intro c r

/-! ## The run -/

theorem start_intro (c : Dev nD) :
    iprop(Pipeline.unscopedRestP Pipeline.Prefetch.none cfg0.spec c (fun b => m ((c : Thread nD τ).loc b)) ∗ levAts L lv
        ∗ Pipeline.launchCred owesAll c ∗ prngReg c (ρ c) ∗ dealt' m c)
      ⊢ |={Set.univ}=> iprop(start m c ∗ emp) := by
  iintro ⟨-, Hlev, Hcr, -, HG⟩
  ihave Hc := (creds (F := F) c) $$ Hcr
  icases Hc with ⟨H1, HN⟩
  imodintro
  unfold start dealt'
  isplitl
  · isplitl [HG]; · iexact HG
    isplitl [H1]; · iexact H1
    isplitl [HN]; · iexact HN
    iexact Hlev
  · iempintro

theorem entry_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atEntry m c from rfl, scopedRest0_eq]
  unfold atEntry
  iintro ⟨Hs, -, Hr⟩
  isplitl [Hs]; · iexact Hs
  iapply (slots_of_whole c); iexact Hr

theorem exit_elim (c : Dev nD) :
    (dats m ρ 0 c).Φ (Fin.last cfg0.N) ⊢ iprop(unscopedSems0 c ∗ ownZero c ∗ Pipeline.scopedRest cfg0.spec c) := by
  rw [show (dats m ρ 0 c).Φ (Fin.last cfg0.N) = atExit c from rfl, scopedRest0_eq, ownZero_eq, otherZero_eq]
  unfold atExit allZero
  iintro ⟨Hr, HzB, HzS, HzV⟩
  isplitl [HzB]; · iexact HzB
  isplitl [HzS HzV]
  · isplitl [HzS] <;> iassumption
  iapply (whole_of_slots m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the arrays of device `c` hold after the run. -/
def finalA (c : Dev nD) (w : Fin cfg0.W) : Buf (Elt F) ((cfg0.win w).arr.view.loc (c : Thread nD τ)) := (dats m ρ 0 c).arrAt w cfg0.N

def atEnd : PUnit × MemSt nD τ sig (Elt F) → Prop := fun r =>
  ∀ c : Dev nD, ∀ w : Fin cfg0.W, r.2.mem ((cfg0.win w).arr.view.loc (c : Thread nD τ)) = finalA m ρ c w

/-- From any memory with every counter at zero, every execution ends; the arrays hold what is computed, and every
    counter is at zero. -/
theorem run_arrays : θ_run defs (onTc (τ := τ) (main (F := F))) (start₀ m ρ) (fun r => atEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owesAll) (howed₀ := fun _ => rfl) (howedN := fun _ => rfl)
    (L := L) (lv := lv) (hL := L_of_ne) (hwaits := waits m ρ)
    (G := dealt m) (G' := dealt' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := entry_intro m ρ) (hout := exit_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) : finalA m ρ c (0 : Fin 2) = m ((c : Thread nD τ).loc main_arg0) :=
  (dats (F := F) m ρ 0 c).arrAt_in (0 : Fin 2) rfl _

theorem finalA_out (c : Dev nD) : finalA m ρ c (1 : Fin 2) = outAt m c := by
  refine (dats (F := F) m ρ 0 c).arrAt_eq_of_after_last (1 : Fin 2) t0_0 (by decide +kernel) _ fun j => ?_
  rfl

/-- From any memory with every counter at zero, every execution ends with each device's result holding its block as
    computed, the input unchanged and every counter at zero. -/
theorem run_kernel : θ_run defs (onTc (τ := τ) (main (F := F))) ⟨m, fun _ => 0, ρ⟩ (fun r =>
    (∀ c : Dev nD, r.2.mem (c.tc.loc main_v1) = outAt m c ∧ r.2.mem (c.tc.loc main_arg0) = m (c.tc.loc main_arg0)) ∧ r.2.sem = fun _ => 0) :=
  (θ_run defs _ _).mono (fun _ h => ⟨fun c => ⟨(h.1 c 1).trans (finalA_out m ρ c), (h.1 c 0).trans (finalA_in m ρ c)⟩, h.2⟩) (run_arrays m ρ)

end Cert.KernelIdeal.Halo

end
-- ==== Proof.Stencil.lean ====
/-
# The stencil of a whole array

The whole arrays have 96 by 192 by 192 elements, extended reals; every device holds a block of 48 by 48 by 48. This
module names the seven-point stencil at a place of the whole array, says where an index of a device's block lies, and
reads the reference's operations at a place.
-/
module

public import proofs.«01_k».proof.Proof.Topology
public import proofs.«01_k».proof.Proof.Gen.ReferenceIdeal.Run
public import Idealize.ShloMosaic.Lib.Pointwise
public import Idealize.ShloMosaic.Lib.Layout

@[expose] public section

set_option maxRecDepth 16384

noncomputable section

namespace Cert.Box

open Idealize.ShloMosaic

/-! ## A whole array, read at three numbers -/

/-- The whole array `U` at the place `(x, y, z)`; zero where there is no such place. -/
def at3 (U : (⟨3, ![96, 192, 192]⟩ : Shape).Idx → EReal) (x y z : ℕ) : EReal :=
  if h : x < 96 ∧ y < 192 ∧ z < 192 then U (ix3 ⟨x, h.1⟩ ⟨y, h.2.1⟩ ⟨z, h.2.2⟩) else 0

/-- The seven-point stencil at a place inside: the sum over the six places next to it, less six times the place's own
    value. -/
def stencil (U : (⟨3, ![96, 192, 192]⟩ : Shape).Idx → EReal) (x y z : ℕ) : EReal :=
  at3 U (x - 1) y z + at3 U (x + 1) y z + at3 U x (y - 1) z + at3 U x (y + 1) z + at3 U x y (z - 1) + at3 U x y (z + 1)
    - Ideal.ofBits .bf16 0x40C0#16 * at3 U x y z

/-- The place lies inside the whole array, not on its border. -/
def Inside (x y z : ℕ) : Prop := (1 ≤ x ∧ x < 95) ∧ (1 ≤ y ∧ y < 191) ∧ (1 ≤ z ∧ z < 191)

instance (x y z : ℕ) : Decidable (Inside x y z) := by unfold Inside; infer_instance

/-- The whole array at an index is `at3` at the index's coordinates. -/
theorem at3_ix (U : (⟨3, ![96, 192, 192]⟩ : Shape).Idx → EReal) (x : Fin 96) (y z : Fin 192) : U (ix3 x y z) = at3 U x.val y.val z.val := by
  unfold at3; rw [dif_pos ⟨x.isLt, y.isLt, z.isLt⟩]

/-! ## The blocks of the layout -/

/-- A device's coordinates in the layout are its coordinates in the box. -/
theorem meshBlock_ix : ∀ c : Fin 32, ((Layout.meshBlock [2, 4, 4] ![[0], [1], [2]] c : (b : Fin 3) → _) 0).val = ix c
    ∧ ((Layout.meshBlock [2, 4, 4] ![[0], [1], [2]] c : (b : Fin 3) → _) 1).val = iy c
    ∧ ((Layout.meshBlock [2, 4, 4] ![[0], [1], [2]] c : (b : Fin 3) → _) 2).val = iz c := by decide

/-- A device's block of a whole array, read at an index. -/
theorem blockN_at (V : (⟨3, ![96, 192, 192]⟩ : Shape).Idx → EReal) (c : Fin 32) (i j k : Fin 48) :
    (Layout.blockN ⟨3, ![48, 48, 48]⟩ ⟨3, ![96, 192, 192]⟩ (Layout.meshBlock [2, 4, 4] ![[0], [1], [2]] c) V : (⟨3, ![48, 48, 48]⟩ : Shape).Idx → EReal) (ix3 i j k)
      = at3 V (ix c * 48 + i.val) (iy c * 48 + j.val) (iz c * 48 + k.val) := by
  have bx : ix c < 2 := by revert c; decide
  have by' : iy c < 4 := by revert c; decide
  have bz : iz c < 4 := by revert c; decide
  obtain ⟨hx, hy, hz⟩ := meshBlock_ix c
  unfold at3
  rw [dif_pos ⟨by omega, by omega, by omega⟩]
  refine congrArg V (funext fun d => Fin.ext ?_)
  rw [Layout.TilesN.idx_val]
  fin_cases d
  · exact congrArg (· * 48 + i.val) hx
  · exact congrArg (· * 48 + j.val) hy
  · exact congrArg (· * 48 + k.val) hz

/-! ## The reference -/

open Cert.ReferenceIdeal Cert.ReferenceIdeal.Gen

/-- What the reference computes of the whole array `U`: its operations in one term. -/
def refOut (U : FVec Ideal S96x192x192 .bf16) : FVec Ideal S96x192x192 .bf16 :=
  pad S96x192x192 ![1, 1, 1] ![1, 1, 1] ![0, 0, 0] (subf (addf (addf (addf (addf (addf (extractStridedSlice S94x190x190 ![0, 1, 1] U slices_S96x192x192_S94x190x190_0_1_1) (extractStridedSlice S94x190x190 ![2, 1, 1] U slices_S96x192x192_S94x190x190_2_1_1)) (extractStridedSlice S94x190x190 ![1, 0, 1] U slices_S96x192x192_S94x190x190_1_0_1)) (extractStridedSlice S94x190x190 ![1, 2, 1] U slices_S96x192x192_S94x190x190_1_2_1)) (extractStridedSlice S94x190x190 ![1, 1, 0] U slices_S96x192x192_S94x190x190_1_1_0)) (extractStridedSlice S94x190x190 ![1, 1, 2] U slices_S96x192x192_S94x190x190_1_1_2)) (mulf (broadcastInDim S94x190x190 ![] bcast_S_S94x190x190 (constant S_ .bf16 0x40C0#16)) (extractStridedSlice S94x190x190 ![1, 1, 1] U slices_S96x192x192_S94x190x190_1_1_1))) (sitofp .bf16 (constantI S_ 32 0#32)) pads_S94x190x190_S96x192x192_110_110_110 h_S_

/-- The reference's result, read at an index: the stencil, and zero on the border. -/
theorem refOut_at (U : FVec Ideal S96x192x192 .bf16) (x : Fin 96) (y z : Fin 192) :
    refOut U (ix3 x y z) = if Inside x.val y.val z.val then stencil U x.val y.val z.val else 0 := by
  unfold refOut
  pointwise
  by_cases h : Inside x.val y.val z.val
  · rw [if_pos h]
    unfold Inside at h
    rw [dif_pos (by omega)]
    have e1 {n : ℕ} (hn : 1 ≤ n) : 1 + (n - 1) = n := by omega
    have e2 {n : ℕ} (hn : 1 ≤ n) : 2 + (n - 1) = n + 1 := by omega
    simp only [at3_ix U, e1 h.1.1, e1 h.2.1.1, e1 h.2.2.1, e2 h.1.1, e2 h.2.1.1, e2 h.2.2.1]
    rfl
  · rw [if_neg h]
    unfold Inside at h
    rw [dif_neg (by omega)]
    show (((0#32).toInt : ℝ) : EReal) = 0
    simp

end Cert.Box

end
-- ==== Proof.KernelIdeal.Value.lean ====
/-
# The value of the result

The kernel's blocks, read at an index, over the extended reals. A device's block of the input is a block of a whole
array `U`. What it ends holding is, at every place, the seven-point stencil of `U` at the corresponding place of the
whole array, and zero on the border.
-/
module

public import proofs.«01_k».proof.Proof.KernelIdeal.Launch
public import proofs.«01_k».proof.Proof.Stencil
public import Idealize.ShloMosaic.Lib.Pointwise
public import Idealize.ShloMosaic.Lib.WritesUnit

@[expose] public section

set_option maxRecDepth 16384

noncomputable section

namespace Cert.KernelIdeal.Halo

open Cert.KernelIdeal Cert.KernelIdeal.Gen Cert.Box
open Idealize.ShloMosaic

/-! ## Parts of a block, read at an index -/

/-- A block with a part replaced: inside the part the new contents, outside it the old ones. -/
theorem put_at {a b c A B C : ℕ} (inb : ∀ d, (![a, b, c] : Fin 3 → ℕ) d + (![A, B, C] : Fin 3 → ℕ) d ≤ S48x48x48.size d)
    (o : FVec Ideal S48x48x48 .bf16) (v : (⟨3, ![A, B, C]⟩ : Shape).Idx → Elt Ideal .bf16) (i j k : Fin 48) :
    putPart (Rect.unit ![a, b, c] ![A, B, C] inb) o v (ix3 i j k)
      = if h : (a ≤ i.val ∧ i.val < a + A) ∧ (b ≤ j.val ∧ j.val < b + B) ∧ (c ≤ k.val ∧ k.val < c + C)
        then v (ix3 ⟨i.val - a, by omega⟩ ⟨j.val - b, by omega⟩ ⟨k.val - c, by omega⟩) else o (ix3 i j k) := by
  refine (View.read_writes_cons_unit (v := outM.view) (f := o) (Val := Elt Ideal) inb v [] (ix3 i j k) rfl).trans ?_
  by_cases h : (a ≤ i.val ∧ i.val < a + A) ∧ (b ≤ j.val ∧ j.val < b + B) ∧ (c ≤ k.val ∧ k.val < c + C)
  · rw [dif_pos h, dif_pos (Fin.forall_fin_succ.mpr ⟨h.1, Fin.forall_fin_two.mpr h.2⟩)]
    exact congrArg v (funext fun d => by fin_cases d <;> rfl)
  · rw [dif_neg h, dif_neg fun h' => h ⟨h' 0, h' 1, h' 2⟩]
    rfl

/-- A part of a block, read at a place: the block, read at the place moved by the part's corner. -/
theorem part_at {a b c A B C : ℕ} (inb : ∀ d, (![a, b, c] : Fin 3 → ℕ) d + (![A, B, C] : Fin 3 → ℕ) d ≤ S48x48x48.size d)
    (o : FVec Ideal S48x48x48 .bf16) (x : Fin A) (y : Fin B) (z : Fin C) (i j k : Fin 48)
    (hi : i.val = a + x.val) (hj : j.val = b + y.val) (hk : k.val = c + z.val) :
    partOf (Rect.unit ![a, b, c] ![A, B, C] inb) o (ix3 x y z) = o (ix3 i j k) :=
  congrArg o (funext fun d => Fin.ext (by
    refine (ValueKit.rect_emb_unit_val (s := S48x48x48) _ _ inb (ix3 x y z) d).trans ?_
    fin_cases d
    · exact hi.symm
    · exact hj.symm
    · exact hk.symm))

/-! ## One face added, one side cleared -/

/-- The index lies on the side of the block in direction `r`. -/
def OnSide (r : Fin 6) (i j k : Fin 48) : Prop :=
  match r with
  | 0 => i.val = 0
  | 1 => i.val = 47
  | 2 => j.val = 0
  | 3 => j.val = 47
  | 4 => k.val = 0
  | 5 => k.val = 47

instance (r : Fin 6) (i j k : Fin 48) : Decidable (OnSide r i j k) := by unfold OnSide; split <;> infer_instance

/-- The place in the face, for an index on the side in direction `r`. -/
def inFace (r : Fin 6) (i j k : Fin 48) : S1x48x48.Idx :=
  match r with
  | 0 => ix3 0 j k
  | 1 => ix3 0 j k
  | 2 => ix3 0 i k
  | 3 => ix3 0 i k
  | 4 => ix3 0 i j
  | 5 => ix3 0 i j

/-- The one layer on the first axis replaced, at position `a`. -/
theorem put_x {a : ℕ} (inb) (o : FVec Ideal S48x48x48 .bf16) (v : S1x48x48.Idx → Elt Ideal .bf16) (i j k : Fin 48) :
    putPart (Rect.unit ![a, 0, 0] ![1, 48, 48] inb) o v (ix3 i j k) = if i.val = a then v (ix3 0 j k) else o (ix3 i j k) := by
  rw [put_at]
  by_cases h : i.val = a
  · subst h
    rw [dif_pos (by omega), if_pos rfl]
    exact congrArg v (funext fun d => Fin.ext (by fin_cases d <;> [exact Nat.sub_self _; rfl; rfl]))
  · rw [dif_neg (by omega), if_neg h]

/-- The one layer on the third axis replaced, at position `a`. -/
theorem put_z {a : ℕ} (inb) (o : FVec Ideal S48x48x48 .bf16) (v : S48x48x1.Idx → Elt Ideal .bf16) (i j k : Fin 48) :
    putPart (Rect.unit ![0, 0, a] ![48, 48, 1] inb) o v (ix3 i j k) = if k.val = a then v (ix3 i j 0) else o (ix3 i j k) := by
  rw [put_at]
  by_cases h : k.val = a
  · subst h
    rw [dif_pos (by omega), if_pos rfl]
    exact congrArg v (funext fun d => Fin.ext (by fin_cases d <;> [rfl; rfl; exact Nat.sub_self _]))
  · rw [dif_neg (by omega), if_neg h]

/-- On the second axis two layers are written, at `b` and the next: one new, at `b + e`, the other as it was. -/
theorem put_y {b e : ℕ} (inb) (sl : S48x2x48.Slices ![0, e, 0] S48x1x48) (o : FVec Ideal S48x48x48 .bf16)
    (v : S48x1x48.Idx → Elt Ideal .bf16) (i j k : Fin 48) :
    putPart (Rect.unit ![0, b, 0] ![48, 2, 48] inb) o (updateSlice (partOf (Rect.unit ![0, b, 0] ![48, 2, 48] inb) o) v ![0, e, 0] sl) (ix3 i j k)
      = if j.val = b + e then v (ix3 i 0 k) else o (ix3 i j k) := by
  have he : e + 1 ≤ 2 := sl.2 1
  rw [put_at]
  by_cases h2 : b ≤ j.val ∧ j.val < b + 2
  · rw [dif_pos (by omega)]
    pointwise
    by_cases h : j.val = b + e
    · rw [dif_pos (by omega), if_pos h]
      exact congrArg (fun q => v (ix3 i q k)) (Subsingleton.elim _ _)
    · rw [dif_neg (by omega), if_neg h]
      exact part_at _ o _ _ _ i j k (Nat.zero_add _).symm (by show j.val = b + (j.val - b); omega) (Nat.zero_add _).symm
  · rw [dif_neg (by omega), if_neg (by omega)]

/-- Two choices over one condition agree if what is taken where it holds agrees. -/
theorem if_congr_val {α : Type} (p : Prop) [Decidable p] {x y z : α} (h : p → x = y) : (if p then x else z) = if p then y else z := by
  by_cases hp : p
  · rw [if_pos hp, if_pos hp, h hp]
  · rw [if_neg hp, if_neg hp]

/-- Adding a face to the side in direction `r` adds it there and nowhere else. -/
theorem addFace_at (r : Fin 6) (o : FVec Ideal S48x48x48 .bf16) (g : FVec Ideal S1x48x48 .bf16) (i j k : Fin 48) :
    addFace r o g (ix3 i j k) = if OnSide r i j k then o (ix3 i j k) + g (inFace r i j k) else o (ix3 i j k) := by
  have hp {a b c A B C : ℕ} (inb : ∀ d, (![a, b, c] : Fin 3 → ℕ) d + (![A, B, C] : Fin 3 → ℕ) d ≤ S48x48x48.size d) := part_at inb o
  match r with
  | 0 => exact (put_x _ o (k0_pay15 (partOf lowX o) g) i j k).trans (if_congr_val _ fun h => by
      unfold k0_pay15; pointwise; exact congrArg (· + _) (hp _ _ _ _ i j k (by show _ = _ + 0; omega) (Nat.zero_add _).symm (Nat.zero_add _).symm))
  | 1 => exact (put_x _ o (k0_pay16 (partOf highX o) g) i j k).trans (if_congr_val _ fun h => by
      unfold k0_pay16; pointwise; exact congrArg (· + _) (hp _ _ _ _ i j k (by show _ = _ + 0; omega) (Nat.zero_add _).symm (Nat.zero_add _).symm))
  | 2 => exact (put_y _ _ o (k0_pay17 (partOf lowY o) g) i j k).trans (if_congr_val _ fun h => by
      unfold k0_pay17; pointwise; exact congrArg (· + _) (hp _ _ _ _ i j k (Nat.zero_add _).symm (by show _ = _ + 0; omega) (Nat.zero_add _).symm))
  | 3 => exact (put_y _ _ o (k0_pay18 (partOf highY o) g) i j k).trans (if_congr_val _ fun h => by
      unfold k0_pay18; pointwise; exact congrArg (· + _) (hp _ _ _ _ i j k (Nat.zero_add _).symm (by show _ = _ + 0; omega) (Nat.zero_add _).symm))
  | 4 => exact (put_z _ o (k0_pay19 (partOf lowZ o) g) i j k).trans (if_congr_val _ fun h => by
      unfold k0_pay19; pointwise; exact congrArg (· + _) (hp _ _ _ _ i j k (Nat.zero_add _).symm (Nat.zero_add _).symm (by show _ = _ + 0; omega)))
  | 5 => exact (put_z _ o (k0_pay20 (partOf highZ o) g) i j k).trans (if_congr_val _ fun h => by
      unfold k0_pay20; pointwise; exact congrArg (· + _) (hp _ _ _ _ i j k (Nat.zero_add _).symm (Nat.zero_add _).symm (by show _ = _ + 0; omega)))

/-- Clearing the side in direction `s` leaves zero there and the rest as it was. -/
theorem clearSide_at (s : Fin 6) (o : FVec Ideal S48x48x48 .bf16) (i j k : Fin 48) :
    clearSide s o (ix3 i j k) = if OnSide s i j k then (0 : EReal) else o (ix3 i j k) := by
  match s with
  | 0 => exact (put_x _ o (k0_pay22 (F := Ideal)) i j k).trans (if_congr_val _ fun _ => by unfold k0_pay22 k0_pay21; pointwise)
  | 1 => exact (put_x _ o (k0_pay23 (F := Ideal)) i j k).trans (if_congr_val _ fun _ => by unfold k0_pay23 k0_pay21; pointwise)
  | 2 => exact (put_y _ _ o (k0_pay24 (F := Ideal)) i j k).trans (if_congr_val _ fun _ => by unfold k0_pay24 k0_pay21; pointwise)
  | 3 => exact (put_y _ _ o (k0_pay1 (F := Ideal) k0_pay21) i j k).trans (if_congr_val _ fun _ => by unfold k0_pay1 k0_pay21; pointwise)
  | 4 => exact (put_z _ o (k0_pay2 (F := Ideal) k0_pay21) i j k).trans (if_congr_val _ fun _ => by unfold k0_pay2 k0_pay21; pointwise)
  | 5 => exact (put_z _ o (k0_pay3 (F := Ideal) k0_pay21) i j k).trans (if_congr_val _ fun _ => by unfold k0_pay3 k0_pay21; pointwise)

/-! ## A device's own sum -/

variable (m : (ℓ : Loc nD τ sig) → Buf (Elt Ideal) ℓ) (U : (⟨3, ![96, 192, 192]⟩ : Shape).Idx → EReal)

/-- Where the first coordinate `i` of device `c`'s block lies in the whole array; -/
abbrev px (c : Dev nD) (i : Fin 48) : ℕ := ix c * 48 + i.val
/-- the second coordinate; -/
abbrev py (c : Dev nD) (j : Fin 48) : ℕ := iy c * 48 + j.val
/-- and the third. -/
abbrev pz (c : Dev nD) (k : Fin 48) : ℕ := iz c * 48 + k.val

/-- Every device's block of the input is its block of `U`. -/
def Cuts : Prop := ∀ (c : Dev nD) (i j k : Fin 48), blockOf m c (ix3 i j k) = at3 U (px c i) (py c j) (pz c k)

/-- The value of the whole array next to a place, in direction `r`. -/
def next (r : Fin 6) (x y z : ℕ) : EReal :=
  match r with
  | 0 => at3 U (x - 1) y z
  | 1 => at3 U (x + 1) y z
  | 2 => at3 U x (y - 1) z
  | 3 => at3 U x (y + 1) z
  | 4 => at3 U x y (z - 1)
  | 5 => at3 U x y (z + 1)

/-- The value next to a place of a block if it lies in the block too, else zero. -/
def within (c : Dev nD) (r : Fin 6) (i j k : Fin 48) : EReal := if OnSide r i j k then 0 else next U r (px c i) (py c j) (pz c k)

variable {m U}

/-- The sum a device forms of its own block: where the place next to it lies in another block, zero is added. -/
theorem ownSum_at (h : Cuts m U) (c : Dev nD) (i j k : Fin 48) :
    ownSum (blockOf m c) (ix3 i j k)
      = within U c 0 i j k + within U c 1 i j k + within U c 2 i j k + within U c 3 i j k + within U c 4 i j k + within U c 5 i j k
        - Ideal.ofBits .bf16 0x40C0#16 * at3 U (px c i) (py c j) (pz c k) := by
  have lower {p q : Prop} [Decidable p] [Decidable q] {b : ¬ p → EReal} {b' : EReal} (e : p ↔ q) (hb : ∀ n, b n = b') :
      (if n : p then 0 else b n) = if q then 0 else b' := by
    by_cases hp : p
    · rw [dif_pos hp, if_pos (e.mp hp)]
    · rw [dif_neg hp, if_neg fun hq => hp (e.mpr hq), hb]
  have upper {p q : Prop} [Decidable p] [Decidable q] {a : p → EReal} {a' : EReal} (e : p ↔ ¬ q) (ha : ∀ n, a n = a') :
      (if n : p then a n else 0) = if q then 0 else a' := by
    by_cases hp : p
    · rw [dif_pos hp, if_neg (e.mp hp), ha]
    · rw [dif_neg hp, if_pos (not_not.mp fun hq => hp (e.mpr hq))]
  have e0 (n : Fin 48) : n.val < 1 ↔ n.val = 0 := by omega
  have e1 (n : Fin 48) : n.val < 47 ↔ ¬ n.val = 47 := by omega
  have low (a : ℕ) (n : Fin 48) (hn : ¬ n.val < 1) : a * 48 + (n.val - 1) = a * 48 + n.val - 1 := by omega
  have high (a : ℕ) (n : Fin 48) : a * 48 + (1 + n.val) = a * 48 + n.val + 1 := by omega
  unfold ownSum k0_pay14 k0_pay13 k0_pay12 k0_pay4
  pointwise
  refine congrArg₂ (· - ·) (congrArg₂ (· + ·) (congrArg₂ (· + ·) (congrArg₂ (· + ·) (congrArg₂ (· + ·) (congrArg₂ (· + ·) ?_ ?_) ?_) ?_) ?_) ?_) (congrArg (_ * ·) (h c i j k))
  · exact lower (e0 i) fun q => (h c _ _ _).trans (congrArg (fun n => at3 U n (py c j) (pz c k)) (low _ i q))
  · exact upper (e1 i) fun q => (h c _ _ _).trans (congrArg (fun n => at3 U n (py c j) (pz c k)) (high _ i))
  · exact lower (e0 j) fun q => (h c _ _ _).trans (congrArg (fun n => at3 U (px c i) n (pz c k)) (low _ j q))
  · exact upper (e1 j) fun q => (h c _ _ _).trans (congrArg (fun n => at3 U (px c i) n (pz c k)) (high _ j))
  · exact lower (e0 k) fun q => (h c _ _ _).trans (congrArg (fun n => at3 U (px c i) (py c j) n) (low _ k q))
  · exact upper (e1 k) fun q => (h c _ _ _).trans (congrArg (fun n => at3 U (px c i) (py c j) n) (high _ k))

/-! ## The neighbours' faces -/

/-- The face that comes from direction `r` holds, for an index on that side, the value of the whole array next to it. -/
theorem faceGot_at (h : Cuts m U) (c : Dev nD) (r : Fin 6) (i j k : Fin 48) (hc : has c r) (hs : OnSide r i j k) :
    faceGot m c r (inFace r i j k) = next U r (px c i) (py c j) (pz c k) := by
  have low {a b : ℕ} {n : Fin 48} (hn : n.val = 0) (hab : b + 1 = a) : b * 48 + 47 = a * 48 + n.val - 1 := by omega
  have high {a b : ℕ} {n : Fin 48} (hn : n.val = 47) (hab : b = a + 1) : b * 48 + 0 = a * 48 + n.val + 1 := by omega
  unfold faceGot
  match r, hc, hs with
  | 0, hc, hs =>
    obtain ⟨hx, hy, hz⟩ := (by decide : ∀ c : Fin 32, has c 0 → ix (beside c 0) + 1 = ix c ∧ iy (beside c 0) = iy c ∧ iz (beside c 0) = iz c) c hc
    show k0_pay6 (blockOf m (beside c 0)) (ix3 0 j k) = _
    unfold k0_pay6 k0_pay4
    pointwise
    refine (h _ _ _ _).trans ?_
    unfold px py pz
    rw [hy, hz]
    exact congrArg (fun n => at3 U n (py c j) (pz c k)) (low hs hx)
  | 1, hc, hs =>
    obtain ⟨hx, hy, hz⟩ := (by decide : ∀ c : Fin 32, has c 1 → ix (beside c 1) = ix c + 1 ∧ iy (beside c 1) = iy c ∧ iz (beside c 1) = iz c) c hc
    show k0_pay5 (blockOf m (beside c 1)) (ix3 0 j k) = _
    unfold k0_pay5 k0_pay4
    pointwise
    refine (h _ _ _ _).trans ?_
    unfold px py pz
    rw [hy, hz]
    exact congrArg (fun n => at3 U n (py c j) (pz c k)) (high hs hx)
  | 2, hc, hs =>
    obtain ⟨hx, hy, hz⟩ := (by decide : ∀ c : Fin 32, has c 2 → ix (beside c 2) = ix c ∧ iy (beside c 2) + 1 = iy c ∧ iz (beside c 2) = iz c) c hc
    show k0_pay8 (blockOf m (beside c 2)) (ix3 0 i k) = _
    unfold k0_pay8 k0_pay4
    pointwise
    refine (h _ _ _ _).trans ?_
    unfold px py pz
    rw [hx, hz]
    exact congrArg (fun n => at3 U (px c i) n (pz c k)) (low hs hy)
  | 3, hc, hs =>
    obtain ⟨hx, hy, hz⟩ := (by decide : ∀ c : Fin 32, has c 3 → ix (beside c 3) = ix c ∧ iy (beside c 3) = iy c + 1 ∧ iz (beside c 3) = iz c) c hc
    show k0_pay7 (blockOf m (beside c 3)) (ix3 0 i k) = _
    unfold k0_pay7 k0_pay4
    pointwise
    refine (h _ _ _ _).trans ?_
    unfold px py pz
    rw [hx, hz]
    exact congrArg (fun n => at3 U (px c i) n (pz c k)) (high hs hy)
  | 4, hc, hs =>
    obtain ⟨hx, hy, hz⟩ := (by decide : ∀ c : Fin 32, has c 4 → ix (beside c 4) = ix c ∧ iy (beside c 4) = iy c ∧ iz (beside c 4) + 1 = iz c) c hc
    show k0_pay11 (k0_pay10 (blockOf m (beside c 4))) (ix3 0 i j) = _
    unfold k0_pay11 k0_pay10 k0_pay4
    pointwise
    refine (h _ _ _ _).trans ?_
    unfold px py pz
    rw [hx, hy]
    exact congrArg (fun n => at3 U (px c i) (py c j) n) (low hs hz)
  | 5, hc, hs =>
    obtain ⟨hx, hy, hz⟩ := (by decide : ∀ c : Fin 32, has c 5 → ix (beside c 5) = ix c ∧ iy (beside c 5) = iy c ∧ iz (beside c 5) = iz c + 1) c hc
    show k0_pay9 (blockOf m (beside c 5)) (ix3 0 i j) = _
    unfold k0_pay9 k0_pay4
    pointwise
    refine (h _ _ _ _).trans ?_
    unfold px py pz
    rw [hx, hy]
    exact congrArg (fun n => at3 U (px c i) (py c j) n) (high hs hz)

/-- What the face from direction `r` adds, if there is one. -/
theorem added_at (h : Cuts m U) (c : Dev nD) (r : Fin 6) (o : FVec Ideal S48x48x48 .bf16) (i j k : Fin 48) :
    added m c r o (ix3 i j k) = o (ix3 i j k) + if has c r ∧ OnSide r i j k then next U r (px c i) (py c j) (pz c k) else 0 := by
  unfold added
  by_cases hc : has c r
  · rw [if_pos hc, addFace_at]
    by_cases hs : OnSide r i j k
    · rw [if_pos hs, if_pos ⟨hc, hs⟩, faceGot_at h c r i j k hc hs]
    · rw [if_neg hs, if_neg fun q => hs q.2, add_zero]
  · rw [if_neg hc, if_neg fun q => hc q.1, add_zero]

/-- What clearing the side in direction `s` leaves, if there is no neighbour. -/
theorem cleared_at (c : Dev nD) (s : Fin 6) (o : FVec Ideal S48x48x48 .bf16) (i j k : Fin 48) :
    cleared c s o (ix3 i j k) = if ¬ has c s ∧ OnSide s i j k then (0 : EReal) else o (ix3 i j k) := by
  unfold cleared
  by_cases hc : has c s
  · rw [if_pos hc, if_neg fun q => q.1 hc]
  · rw [if_neg hc, clearSide_at]
    exact if_congr ⟨fun hs => ⟨hc, hs⟩, fun q => q.2⟩ rfl rfl

/-- What a device takes of its own block and what it adds of a neighbour's face together are the value next to the
    place, unless the place lies on the border of the whole array. -/
theorem joined (c : Dev nD) (r : Fin 6) (i j k : Fin 48) (hs : OnSide r i j k → has c r) :
    within U c r i j k + (if has c r ∧ OnSide r i j k then next U r (px c i) (py c j) (pz c k) else 0) = next U r (px c i) (py c j) (pz c k) := by
  unfold within
  by_cases q : OnSide r i j k
  · rw [if_pos q, if_pos ⟨hs q, q⟩, zero_add]
  · rw [if_neg q, if_neg fun p => q p.2, add_zero]

/-- A place lies inside the whole array just if there is a neighbour on every side of the block that it lies on. -/
theorem inside_iff (c : Dev nD) (i j k : Fin 48) : Inside (px c i) (py c j) (pz c k) ↔ ∀ r, OnSide r i j k → has c r := by
  have bx : ix c < 2 := by revert c; decide
  have by' : iy c < 4 := by revert c; decide
  have bz : iz c < 4 := by revert c; decide
  unfold Inside px py pz
  constructor
  · intro h r q
    match r, q with
    | 0, q => have q : i.val = 0 := q; exact decide_eq_true (by omega)
    | 1, q => have q : i.val = 47 := q; exact decide_eq_true (by omega)
    | 2, q => have q : j.val = 0 := q; exact decide_eq_true (by omega)
    | 3, q => have q : j.val = 47 := q; exact decide_eq_true (by omega)
    | 4, q => have q : k.val = 0 := q; exact decide_eq_true (by omega)
    | 5, q => have q : k.val = 47 := q; exact decide_eq_true (by omega)
  · intro h
    have h0 : i.val = 0 → 0 < ix c := fun q => of_decide_eq_true (h 0 q)
    have h1 : i.val = 47 → ix c < 1 := fun q => of_decide_eq_true (h 1 q)
    have h2 : j.val = 0 → 0 < iy c := fun q => of_decide_eq_true (h 2 q)
    have h3 : j.val = 47 → iy c < 3 := fun q => of_decide_eq_true (h 3 q)
    have h4 : k.val = 0 → 0 < iz c := fun q => of_decide_eq_true (h 4 q)
    have h5 : k.val = 47 → iz c < 3 := fun q => of_decide_eq_true (h 5 q)
    omega

/-! ## The whole result -/

/-- A sum of six terms, less a last one, and six more terms: term by term. -/
theorem term_by_term (a b c d e f g a' b' c' d' e' f' : EReal) :
    a + b + c + d + e + f - g + a' + b' + c' + d' + e' + f' = (a + a') + (b + b') + (c + c') + (d + d') + (e + e') + (f + f') - g := by
  simp only [sub_eq_add_neg]
  ac_rfl

/-- A device's block of the result, read at an index: the stencil of the whole array at the place the index has there,
    and zero on the border. -/
theorem outAt_at (h : Cuts m U) (c : Dev nD) (i j k : Fin 48) :
    outAt m c (ix3 i j k) = if Inside (px c i) (py c j) (pz c k) then stencil U (px c i) (py c j) (pz c k) else 0 := by
  unfold outAt
  simp only [cleared_at]
  by_cases hin : Inside (px c i) (py c j) (pz c k)
  · have hs := (inside_iff c i j k).mp hin
    have no (r : Fin 6) : ¬ (¬ has c r ∧ OnSide r i j k) := fun q => q.1 (hs r q.2)
    rw [if_pos hin, if_neg (no 5), if_neg (no 4), if_neg (no 3), if_neg (no 2), if_neg (no 1), if_neg (no 0)]
    unfold summed
    simp only [added_at h]
    rw [ownSum_at h, term_by_term]
    have e (r : Fin 6) := joined (U := U) c r i j k (hs r)
    rw [e 0, e 1, e 2, e 3, e 4, e 5]
    rfl
  · rw [if_neg hin]
    obtain ⟨r, hr⟩ := not_forall.mp fun q => hin ((inside_iff c i j k).mpr q)
    have yes : ¬ has c r ∧ OnSide r i j k := ⟨fun q => hr fun _ => q, (_root_.not_imp.mp hr).1⟩
    split_ifs with h5 h4 h3 h2 h1 h0
    all_goals first | rfl | (exfalso; match r, yes with | 0, q => exact h0 q | 1, q => exact h1 q | 2, q => exact h2 q | 3, q => exact h3 q | 4, q => exact h4 q | 5, q => exact h5 q)

/-- An index of a block by its three coordinates. -/
theorem eq_ix3 {a b c : ℕ} (p : (⟨3, ![a, b, c]⟩ : Shape).Idx) : p = ix3 (p 0) (p 1) (p 2) := funext fun d => by fin_cases d <;> rfl

/-- A device's block of the result is its block of what the reference computes of the whole array, if every device's
    block of the input is its block of the whole array. -/
theorem outAt_eq (c : Dev nD) (h : ∀ c : Dev nD, blockOf m c = Layout.blockN ⟨3, ![48, 48, 48]⟩ ⟨3, ![96, 192, 192]⟩ (Layout.meshBlock [2, 4, 4] ![[0], [1], [2]] c) U) :
    outAt m c = Layout.blockN ⟨3, ![48, 48, 48]⟩ ⟨3, ![96, 192, 192]⟩ (Layout.meshBlock [2, 4, 4] ![[0], [1], [2]] c) (refOut U) := by
  have hc : Cuts m U := fun c i j k => (congrFun (h c) (ix3 i j k)).trans (blockN_at U c i j k)
  have bx : ix c < 2 := by revert c; decide
  have by' : iy c < 4 := by revert c; decide
  have bz : iz c < 4 := by revert c; decide
  funext p
  obtain ⟨i, j, k, rfl⟩ : ∃ (i j k : Fin 48), p = ix3 i j k := ⟨p 0, p 1, p 2, eq_ix3 p⟩
  refine (outAt_at hc c i j k).trans (Eq.trans ?_ (blockN_at (refOut U) c i j k).symm)
  unfold at3
  rw [dif_pos ⟨by omega, by omega, by omega⟩]
  exact (refOut_at U ⟨ix c * 48 + i.val, by omega⟩ ⟨iy c * 48 + j.val, by omega⟩ ⟨iz c * 48 + k.val, by omega⟩).symm

end Cert.KernelIdeal.Halo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel's frame: every execution ends, with the input unchanged and every semaphore at zero. -/
theorem frame_kernel : Cert.quiescent_Kernel := fun m g _ =>
  (θ_run Cert.Kernel.defs _ _).mono (fun _ h => ⟨fun c => (h.1 c).2, h.2⟩) (Cert.Kernel.Halo.run_kernel m g)

/-- The same of the kernel read over the extended reals. -/
theorem frame_ideal : Cert.quiescent_KernelIdeal := fun m g _ =>
  (θ_run Cert.KernelIdeal.defs _ _).mono (fun _ h => ⟨fun c => (h.1 c).2, h.2⟩) (Cert.KernelIdeal.Halo.run_kernel m g)

/-- The reference's frame; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The devices' blocks of the result are the blocks of what the reference computes. -/
theorem same_value : Cert.algebraic_KernelIdeal_ReferenceIdeal := fun m g m' g' _ hin =>
  ⟨Cert.Box.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.KernelIdeal.Halo.outAt_eq c hin), (h.1 c).2⟩)
      (Cert.KernelIdeal.Halo.run_kernel m g),
    (θ_run Cert.ReferenceIdeal.defs _ _).mono (fun _ h => h 0) (Cert.ReferenceIdeal.Value.run m' g')⟩

/-- All five claims together. -/
theorem claim : Cert.Claim :=
  ⟨Cert.Kernel.Gen.facts, Cert.KernelIdeal.Gen.facts, Cert.ReferenceIdeal.Gen.facts,
    frame_kernel, frame_ideal, frame_reference, trivial, same_value⟩

end Cert.Proof

end
